-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 2048, 2, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 2048, 2, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v64) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x2x64 : S_.BroadcastsInDim S2x128x2x64 (![] : Fin 0 → Fin S2x128x2x64.rank)
  reducesTo_S2x128x2x64_S_d0_1_2_3 : S2x128x2x64.ReducesTo [0, 1, 2, 3] S_

variable [Facts]

def fn {F : FTy → Type} [FloatOps F] (main_arg0 : FVec F S2x128x512 .bf16) (main_arg1 : FVec F S512x512 .bf16) (main_arg2 : FVec F S2x128x2x64 .bf16) (main_arg3 : FVec F S2x128x2x64 .bf16) (main_arg4 : FVec F S512x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .bf16 := Host.absf main_arg1
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x128x2x64 .bf16 := Host.absf main_arg2
  let main_cst_2 : FVec F S_ .bf16 := constant S_ .bf16 0x7F80#16
  let main_v10 : FVec F S2x128x2x64 .bf16 := broadcastInDim S2x128x2x64 ![] bcast_S_S2x128x2x64 main_cst_2
  let main_v11 : IVec S2x128x2x64 1 := cmpf .olt main_v9 main_v10
  let main_c_3 : IVec S_ 1 := constantI S_ 1 1#1
  let main_v12 : IVec S_ 1 := (fun x v => Host.reduce IntOp.andi x v reducesTo_S2x128x2x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x512 : Shape := ⟨2, ![512, 512]⟩
abbrev S2x2048x2x64 : Shape := ⟨4, ![2, 2048, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn {F : FTy → Type} [FloatOps F] (main_arg0 : FVec F S2x128x512 .bf16) (main_arg1 : FVec F S512x512 .bf16) (main_arg2 : FVec F S2x2048x2x64 .bf16) (main_arg3 : FVec F S2x2048x2x64 .bf16) (main_arg4 : FVec F S512x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .bf16 := Host.absf main_arg1
  let main_cst_0 : FVec F S_ .bf16 := constant S_ .bf16 0x7F80#16
  let main_v5 : FVec F S512x512 .bf16 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x2048x2x64 .bf16 := Host.absf main_arg2
  let main_cst_2 : FVec F S_ .bf16 := constant S_ .bf16 0x7F80#16
  let main_v10 : FVec F S2x2048x2x64 .bf16 := broadcastInDim S2x2048x2x64 ![] bcast_S_S2x2048x2x64 main_cst_2
  let main_v11 : IVec S2x2048x2x64 1 := cmpf .olt main_v9 main_v10
  let main_c_3 : IVec S_ 1 := constantI S_ 1 1#1
  let main_v12 : IVec S_ 1 := (fun x v => Host.reduce IntOp.andi x v reducesTo_S2x2048x2x64_S_d0_1_2_3 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S1x256x640 : Shape := ⟨3, ![1, 256, 640]⟩
abbrev S16x16x640 : Shape := ⟨3, ![16, 16, 640]⟩
abbrev S256x512 : Shape := ⟨2, ![256, 512]⟩
abbrev S15 : Shape := ⟨1, ![15]⟩
abbrev S_ : Shape := ⟨0, ![]⟩
abbrev S1x128x512 : Shape := ⟨3, ![1, 128, 512]⟩
abbrev S128x512 : Shape := ⟨2, ![128, 512]⟩
abbrev S128x64 : Shape := ⟨2, ![128, 64]⟩
abbrev S512x64 : Shape := ⟨2, ![512, 64]⟩
abbrev S1x128x1x64 : Shape := ⟨4, ![1, 128, 1, 64]⟩
abbrev S64x128 : Shape := ⟨2, ![64, 128]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S128x1 : Shape := ⟨2, ![128, 1]⟩
abbrev S128x4 : Shape := ⟨2, ![128, 4]⟩
abbrev S1x128x256 : Shape := ⟨3, ![1, 128, 256]⟩
abbrev S1x128x4 : Shape := ⟨3, ![1, 128, 4]⟩
abbrev S1x16x640 : Shape := ⟨3, ![1, 16, 640]⟩
abbrev S1 : Shape := ⟨1, ![1]⟩
abbrev S16x16x512 : Shape := ⟨3, ![16, 16, 512]⟩
abbrev S16x512 : Shape := ⟨2, ![16, 512]⟩
abbrev S16x16x8 : Shape := ⟨3, ![16, 16, 8]⟩
abbrev S16x8 : Shape := ⟨2, ![16, 8]⟩
abbrev S8x512 : Shape := ⟨2, ![8, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x2x64, .bf16⟩
  | .hbm, ⟨3, _⟩ => ⟨S2x128x2x64, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x2x64, .bf16⟩
  | .local _ .vmem, ⟨4, _⟩ => ⟨S2x128x2x64, .bf16⟩
  | .local _ .vmem, ⟨5, _⟩ => ⟨S2x128x512, .f32⟩
  | .local _ .vmem, ⟨6, _⟩ => ⟨S1x256x640, .bf16⟩
  | .local _ .vmem, ⟨7, _⟩ => ⟨S16x16x640, .bf16⟩
  | .local _ .vmem, ⟨8, _⟩ => ⟨S256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let c0_138 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_137 : BitVec 32 := 16#32
  let v222 : BitVec 32 := Scalar.muli v2 c16_i32_137
  let v223 : Index := Scalar.indexCast v222
  let c0_139 : Index := 0#32
  ![0, v223.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v225 : Index := Scalar.indexCast v2
  let c0_140 : Index := 0#32
  let c0_141 : Index := 0#32
  ![v225.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_150 : BitVec 32 := 0#32
  let c0_i32_151 : BitVec 32 := 0#32
  ![v2.toNat, 0, 0]
def k0_off4 (d0 : Dev nD) (c1_i32_143 : BitVec 32) : Fin 3 → Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.addi v2 c1_i32_143
  let c16_i32_144 : BitVec 32 := 16#32
  let v230 : BitVec 32 := Scalar.remsi v229 c16_i32_144
  let c16_i32_145 : BitVec 32 := 16#32
  let v231 : BitVec 32 := Scalar.muli v230 c16_i32_145
  let c0_i32_153 : BitVec 32 := 0#32
  ![0, v231.toNat, 0]
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v229 : BitVec 32 := Scalar.addi v2 c1_i32_143
  let c16_i32_144 : BitVec 32 := 16#32
  let v230 : BitVec 32 := Scalar.remsi v229 c16_i32_144
  let c1_i32_148 : BitVec 32 := 1#32
  let v232 : BitVec 32 := Scalar.muli v230 c1_i32_148
  let v233 : BitVec 32 := Scalar.addi c0_i32_149 v232
  v233.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v243 : BitVec 32 := Scalar.addi v2 c2_i32_157
  let c16_i32_158 : BitVec 32 := 16#32
  let v244 : BitVec 32 := Scalar.remsi v243 c16_i32_158
  let c1_i32_162 : BitVec 32 := 1#32
  let v246 : BitVec 32 := Scalar.muli v244 c1_i32_162
  let v247 : BitVec 32 := Scalar.addi c0_i32_163 v246
  v247.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_171 : BitVec 32 := 3#32
  let v257 : BitVec 32 := Scalar.addi v2 c3_i32_171
  let c16_i32_172 : BitVec 32 := 16#32
  let v258 : BitVec 32 := Scalar.remsi v257 c16_i32_172
  let c1_i32_176 : BitVec 32 := 1#32
  let v260 : BitVec 32 := Scalar.muli v258 c1_i32_176
  let v261 : BitVec 32 := Scalar.addi c0_i32_177 v260
  v261.toNat
def k0_dev19 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_185 : BitVec 32 := 4#32
  let v271 : BitVec 32 := Scalar.addi v2 c4_i32_185
  let c16_i32_186 : BitVec 32 := 16#32
  let v272 : BitVec 32 := Scalar.remsi v271 c16_i32_186
  let c1_i32_190 : BitVec 32 := 1#32
  let v274 : BitVec 32 := Scalar.muli v272 c1_i32_190
  let v275 : BitVec 32 := Scalar.addi c0_i32_191 v274
  v275.toNat
def k0_dev20 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v285 : BitVec 32 := Scalar.addi v2 c5_i32_199
  let c16_i32_200 : BitVec 32 := 16#32
  let v286 : BitVec 32 := Scalar.remsi v285 c16_i32_200
  let c1_i32_204 : BitVec 32 := 1#32
  let v288 : BitVec 32 := Scalar.muli v286 c1_i32_204
  let v289 : BitVec 32 := Scalar.addi c0_i32_205 v288
  v289.toNat
def k0_dev21 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_213 : BitVec 32 := 6#32
  let v299 : BitVec 32 := Scalar.addi v2 c6_i32_213
  let c16_i32_214 : BitVec 32 := 16#32
  let v300 : BitVec 32 := Scalar.remsi v299 c16_i32_214
  let c1_i32_218 : BitVec 32 := 1#32
  let v302 : BitVec 32 := Scalar.muli v300 c1_i32_218
  let v303 : BitVec 32 := Scalar.addi c0_i32_219 v302
  v303.toNat
def k0_dev22 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_227 : BitVec 32 := 7#32
  let v313 : BitVec 32 := Scalar.addi v2 c7_i32_227
  let c16_i32_228 : BitVec 32 := 16#32
  let v314 : BitVec 32 := Scalar.remsi v313 c16_i32_228
  let c1_i32_232 : BitVec 32 := 1#32
  let v316 : BitVec 32 := Scalar.muli v314 c1_i32_232
  let v317 : BitVec 32 := Scalar.addi c0_i32_233 v316
  v317.toNat
def k0_dev23 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_241 : BitVec 32 := 8#32
  let v327 : BitVec 32 := Scalar.addi v2 c8_i32_241
  let c16_i32_242 : BitVec 32 := 16#32
  let v328 : BitVec 32 := Scalar.remsi v327 c16_i32_242
  let c1_i32_246 : BitVec 32 := 1#32
  let v330 : BitVec 32 := Scalar.muli v328 c1_i32_246
  let v331 : BitVec 32 := Scalar.addi c0_i32_247 v330
  v331.toNat
def k0_dev24 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_255 : BitVec 32 := 9#32
  let v341 : BitVec 32 := Scalar.addi v2 c9_i32_255
  let c16_i32_256 : BitVec 32 := 16#32
  let v342 : BitVec 32 := Scalar.remsi v341 c16_i32_256
  let c1_i32_260 : BitVec 32 := 1#32
  let v344 : BitVec 32 := Scalar.muli v342 c1_i32_260
  let v345 : BitVec 32 := Scalar.addi c0_i32_261 v344
  v345.toNat
def k0_dev25 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_269 : BitVec 32 := 10#32
  let v355 : BitVec 32 := Scalar.addi v2 c10_i32_269
  let c16_i32_270 : BitVec 32 := 16#32
  let v356 : BitVec 32 := Scalar.remsi v355 c16_i32_270
  let c1_i32_274 : BitVec 32 := 1#32
  let v358 : BitVec 32 := Scalar.muli v356 c1_i32_274
  let v359 : BitVec 32 := Scalar.addi c0_i32_275 v358
  v359.toNat
def k0_dev26 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_283 : BitVec 32 := 11#32
  let v369 : BitVec 32 := Scalar.addi v2 c11_i32_283
  let c16_i32_284 : BitVec 32 := 16#32
  let v370 : BitVec 32 := Scalar.remsi v369 c16_i32_284
  let c1_i32_288 : BitVec 32 := 1#32
  let v372 : BitVec 32 := Scalar.muli v370 c1_i32_288
  let v373 : BitVec 32 := Scalar.addi c0_i32_289 v372
  v373.toNat
def k0_dev27 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_297 : BitVec 32 := 12#32
  let v383 : BitVec 32 := Scalar.addi v2 c12_i32_297
  let c16_i32_298 : BitVec 32 := 16#32
  let v384 : BitVec 32 := Scalar.remsi v383 c16_i32_298
  let c1_i32_302 : BitVec 32 := 1#32
  let v386 : BitVec 32 := Scalar.muli v384 c1_i32_302
  let v387 : BitVec 32 := Scalar.addi c0_i32_303 v386
  v387.toNat
def k0_dev28 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_311 : BitVec 32 := 13#32
  let v397 : BitVec 32 := Scalar.addi v2 c13_i32_311
  let c16_i32_312 : BitVec 32 := 16#32
  let v398 : BitVec 32 := Scalar.remsi v397 c16_i32_312
  let c1_i32_316 : BitVec 32 := 1#32
  let v400 : BitVec 32 := Scalar.muli v398 c1_i32_316
  let v401 : BitVec 32 := Scalar.addi c0_i32_317 v400
  v401.toNat
def k0_dev29 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_325 : BitVec 32 := 14#32
  let v411 : BitVec 32 := Scalar.addi v2 c14_i32_325
  let c16_i32_326 : BitVec 32 := 16#32
  let v412 : BitVec 32 := Scalar.remsi v411 c16_i32_326
  let c1_i32_330 : BitVec 32 := 1#32
  let v414 : BitVec 32 := Scalar.muli v412 c1_i32_330
  let v415 : BitVec 32 := Scalar.addi c0_i32_331 v414
  v415.toNat
def k0_dev30 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_339 : BitVec 32 := 15#32
  let v425 : BitVec 32 := Scalar.addi v2 c15_i32_339
  let c16_i32_340 : BitVec 32 := 16#32
  let v426 : BitVec 32 := Scalar.remsi v425 c16_i32_340
  let c1_i32_344 : BitVec 32 := 1#32
  let v428 : BitVec 32 := Scalar.muli v426 c1_i32_344
  let v429 : BitVec 32 := Scalar.addi c0_i32_345 v428
  v429.toNat
def k0_off5 (d0 : Dev nD) (c1_i32_154 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v240 : BitVec 32 := Scalar.subi v2 c1_i32_154
  let c16_i32_155 : BitVec 32 := 16#32
  let v241 : BitVec 32 := Scalar.addi v240 c16_i32_155
  let c16_i32_156 : BitVec 32 := 16#32
  let v242 : BitVec 32 := Scalar.remsi v241 c16_i32_156
  let c0_i32_357 : BitVec 32 := 0#32
  let c0_i32_358 : BitVec 32 := 0#32
  ![v242.toNat, 0, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_490 : BitVec 32 := 16#32
  let v571 : BitVec 32 := Scalar.muli v2 c16_i32_490
  let v572 : Index := Scalar.indexCast v571
  let c0_491 : Index := 0#32
  ![v572.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_492 : BitVec 32 := 16#32
  let v576 : BitVec 32 := Scalar.muli v2 c16_i32_492
  let c0_i32_499 : BitVec 32 := 0#32
  ![v576.toNat, 0]
def k0_dev31 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_493 : BitVec 32 := 1#32
  let v577 : BitVec 32 := Scalar.addi v2 c1_i32_493
  let c16_i32_494 : BitVec 32 := 16#32
  let v578 : BitVec 32 := Scalar.remsi v577 c16_i32_494
  let c1_i32_497 : BitVec 32 := 1#32
  let v579 : BitVec 32 := Scalar.muli v578 c1_i32_497
  let v580 : BitVec 32 := Scalar.addi c0_i32_498 v579
  v580.toNat
def k0_dev32 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_505 : BitVec 32 := 2#32
  let v591 : BitVec 32 := Scalar.addi v2 c2_i32_505
  let c16_i32_506 : BitVec 32 := 16#32
  let v592 : BitVec 32 := Scalar.remsi v591 c16_i32_506
  let c1_i32_509 : BitVec 32 := 1#32
  let v593 : BitVec 32 := Scalar.muli v592 c1_i32_509
  let v594 : BitVec 32 := Scalar.addi c0_i32_510 v593
  v594.toNat
def k0_dev33 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_517 : BitVec 32 := 3#32
  let v605 : BitVec 32 := Scalar.addi v2 c3_i32_517
  let c16_i32_518 : BitVec 32 := 16#32
  let v606 : BitVec 32 := Scalar.remsi v605 c16_i32_518
  let c1_i32_521 : BitVec 32 := 1#32
  let v607 : BitVec 32 := Scalar.muli v606 c1_i32_521
  let v608 : BitVec 32 := Scalar.addi c0_i32_522 v607
  v608.toNat
def k0_dev34 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_529 : BitVec 32 := 4#32
  let v619 : BitVec 32 := Scalar.addi v2 c4_i32_529
  let c16_i32_530 : BitVec 32 := 16#32
  let v620 : BitVec 32 := Scalar.remsi v619 c16_i32_530
  let c1_i32_533 : BitVec 32 := 1#32
  let v621 : BitVec 32 := Scalar.muli v620 c1_i32_533
  let v622 : BitVec 32 := Scalar.addi c0_i32_534 v621
  v622.toNat
def k0_dev35 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_541 : BitVec 32 := 5#32
  let v633 : BitVec 32 := Scalar.addi v2 c5_i32_541
  let c16_i32_542 : BitVec 32 := 16#32
  let v634 : BitVec 32 := Scalar.remsi v633 c16_i32_542
  let c1_i32_545 : BitVec 32 := 1#32
  let v635 : BitVec 32 := Scalar.muli v634 c1_i32_545
  let v636 : BitVec 32 := Scalar.addi c0_i32_546 v635
  v636.toNat
def k0_dev36 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_553 : BitVec 32 := 6#32
  let v647 : BitVec 32 := Scalar.addi v2 c6_i32_553
  let c16_i32_554 : BitVec 32 := 16#32
  let v648 : BitVec 32 := Scalar.remsi v647 c16_i32_554
  let c1_i32_557 : BitVec 32 := 1#32
  let v649 : BitVec 32 := Scalar.muli v648 c1_i32_557
  let v650 : BitVec 32 := Scalar.addi c0_i32_558 v649
  v650.toNat
def k0_dev37 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_565 : BitVec 32 := 7#32
  let v661 : BitVec 32 := Scalar.addi v2 c7_i32_565
  let c16_i32_566 : BitVec 32 := 16#32
  let v662 : BitVec 32 := Scalar.remsi v661 c16_i32_566
  let c1_i32_569 : BitVec 32 := 1#32
  let v663 : BitVec 32 := Scalar.muli v662 c1_i32_569
  let v664 : BitVec 32 := Scalar.addi c0_i32_570 v663
  v664.toNat
def k0_dev38 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_577 : BitVec 32 := 8#32
  let v675 : BitVec 32 := Scalar.addi v2 c8_i32_577
  let c16_i32_578 : BitVec 32 := 16#32
  let v676 : BitVec 32 := Scalar.remsi v675 c16_i32_578
  let c1_i32_581 : BitVec 32 := 1#32
  let v677 : BitVec 32 := Scalar.muli v676 c1_i32_581
  let v678 : BitVec 32 := Scalar.addi c0_i32_582 v677
  v678.toNat
def k0_dev39 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_589 : BitVec 32 := 9#32
  let v689 : BitVec 32 := Scalar.addi v2 c9_i32_589
  let c16_i32_590 : BitVec 32 := 16#32
  let v690 : BitVec 32 := Scalar.remsi v689 c16_i32_590
  let c1_i32_593 : BitVec 32 := 1#32
  let v691 : BitVec 32 := Scalar.muli v690 c1_i32_593
  let v692 : BitVec 32 := Scalar.addi c0_i32_594 v691
  v692.toNat
def k0_dev40 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_601 : BitVec 32 := 10#32
  let v703 : BitVec 32 := Scalar.addi v2 c10_i32_601
  let c16_i32_602 : BitVec 32 := 16#32
  let v704 : BitVec 32 := Scalar.remsi v703 c16_i32_602
  let c1_i32_605 : BitVec 32 := 1#32
  let v705 : BitVec 32 := Scalar.muli v704 c1_i32_605
  let v706 : BitVec 32 := Scalar.addi c0_i32_606 v705
  v706.toNat
def k0_dev41 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_613 : BitVec 32 := 11#32
  let v717 : BitVec 32 := Scalar.addi v2 c11_i32_613
  let c16_i32_614 : BitVec 32 := 16#32
  let v718 : BitVec 32 := Scalar.remsi v717 c16_i32_614
  let c1_i32_617 : BitVec 32 := 1#32
  let v719 : BitVec 32 := Scalar.muli v718 c1_i32_617
  let v720 : BitVec 32 := Scalar.addi c0_i32_618 v719
  v720.toNat
def k0_dev42 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_625 : BitVec 32 := 12#32
  let v731 : BitVec 32 := Scalar.addi v2 c12_i32_625
  let c16_i32_626 : BitVec 32 := 16#32
  let v732 : BitVec 32 := Scalar.remsi v731 c16_i32_626
  let c1_i32_629 : BitVec 32 := 1#32
  let v733 : BitVec 32 := Scalar.muli v732 c1_i32_629
  let v734 : BitVec 32 := Scalar.addi c0_i32_630 v733
  v734.toNat
def k0_dev43 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_637 : BitVec 32 := 13#32
  let v745 : BitVec 32 := Scalar.addi v2 c13_i32_637
  let c16_i32_638 : BitVec 32 := 16#32
  let v746 : BitVec 32 := Scalar.remsi v745 c16_i32_638
  let c1_i32_641 : BitVec 32 := 1#32
  let v747 : BitVec 32 := Scalar.muli v746 c1_i32_641
  let v748 : BitVec 32 := Scalar.addi c0_i32_642 v747
  v748.toNat
def k0_dev44 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_649 : BitVec 32 := 14#32
  let v759 : BitVec 32 := Scalar.addi v2 c14_i32_649
  let c16_i32_650 : BitVec 32 := 16#32
  let v760 : BitVec 32 := Scalar.remsi v759 c16_i32_650
  let c1_i32_653 : BitVec 32 := 1#32
  let v761 : BitVec 32 := Scalar.muli v760 c1_i32_653
  let v762 : BitVec 32 := Scalar.addi c0_i32_654 v761
  v762.toNat
def k0_dev45 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_661 : BitVec 32 := 15#32
  let v773 : BitVec 32 := Scalar.addi v2 c15_i32_661
  let c16_i32_662 : BitVec 32 := 16#32
  let v774 : BitVec 32 := Scalar.remsi v773 c16_i32_662
  let c1_i32_665 : BitVec 32 := 1#32
  let v775 : BitVec 32 := Scalar.muli v774 c1_i32_665
  let v776 : BitVec 32 := Scalar.addi c0_i32_666 v775
  v776.toNat
def k0_off8 (d0 : Dev nD) (c1_i32_501 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v587 : BitVec 32 := Scalar.subi v2 c1_i32_501
  let c16_i32_502 : BitVec 32 := 16#32
  let v588 : BitVec 32 := Scalar.addi v587 c16_i32_502
  let c16_i32_503 : BitVec 32 := 16#32
  let v589 : BitVec 32 := Scalar.remsi v588 c16_i32_503
  let c16_i32_504 : BitVec 32 := 16#32
  let v590 : BitVec 32 := Scalar.muli v589 c16_i32_504
  let c0_i32_677 : BitVec 32 := 0#32
  ![v590.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x2048x2x64 : Shape := ⟨4, ![2, 2048, 2, 64]⟩
abbrev S2x128x8x64 : Shape := ⟨4, ![2, 128, 8, 64]⟩
abbrev S2x2048x2x4x64 : Shape := ⟨5, ![2, 2048, 2, 4, 64]⟩
abbrev S2x2048x8x64 : Shape := ⟨4, ![2, 2048, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x2048x2x64, .bf16⟩
  | .hbm, ⟨3, _⟩ => ⟨S2x2048x2x64, .bf16⟩
  | .hbm, ⟨4, _⟩ => ⟨S512x512, .bf16⟩
  | .hbm, ⟨5, _⟩ => ⟨S2x128x512, .f32⟩
  | .hbm, ⟨6, _⟩ => ⟨S2x128x512, .bf16⟩
  | .hbm, ⟨7, _⟩ => ⟨S2x128x8x64, .bf16⟩
  | .hbm, ⟨8, _⟩ => ⟨S2x2048x2x4x64, .bf16⟩
  | .hbm, ⟨9, _⟩ => ⟨S2x2048x8x64, .bf16⟩
  | .hbm, ⟨10, _⟩ => ⟨S2x2048x2x4x64, .bf16⟩
  | .hbm, ⟨11, _⟩ => ⟨S2x2048x8x64, .bf16⟩
  | .hbm, ⟨12, _⟩ => ⟨S_, .f32⟩
  | .hbm, ⟨13, _⟩ => ⟨S2x128x8x64, .f32⟩
  | .hbm, ⟨14, _⟩ => ⟨S_, .f32⟩
  | .hbm, ⟨15, _⟩ => ⟨S2x8x128x1, .f32⟩
  | .hbm, ⟨16, _⟩ => ⟨S_, .f32⟩
  | .hbm, ⟨17, _⟩ => ⟨S2x8x128x1, .f32⟩
  | .hbm, ⟨18, _⟩ => ⟨S2x1024x8x64, .bf16⟩
  | .hbm, ⟨19, _⟩ => ⟨S2x1024x8x64, .bf16⟩
  | .hbm, ⟨20, _⟩ => ⟨S2x8x128x1024, .f32⟩
  | .hbm, ⟨21, _⟩ => ⟨S2x8x128x1024, .bf16⟩
  | .hbm, ⟨22, _⟩ => ⟨S2x8x128x1024, .f32⟩
  | .hbm, ⟨23, _⟩ => ⟨S_, .f32⟩
  | .hbm, ⟨24, _⟩ => ⟨S2x8x128x1024, .f32⟩
  | .hbm, ⟨25, _⟩ => ⟨S2x8x128x1024, .f32⟩
  | .hbm, ⟨26, _⟩ => ⟨S_, .f32⟩
  | .hbm, ⟨27, _⟩ => ⟨S2x8x128, .f32⟩
  | .hbm, ⟨28, _⟩ => ⟨S2x8x128x1, .f32⟩
  | .hbm, ⟨29, _⟩ => ⟨S2x8x128x1, .f32⟩
  | .hbm, ⟨30, _⟩ => ⟨S2x8x128x1, .f32⟩
  | .hbm, ⟨31, _⟩ => ⟨S2x8x128x1, .f32⟩
  | .hbm, ⟨32, _⟩ => ⟨S2x8x128x1024, .f32⟩
  | .hbm, ⟨33, _⟩ => ⟨S2x8x128x1024, .f32⟩
  | .hbm, ⟨34, _⟩ => ⟨S2x8x128x1024, .f32⟩
  | .hbm, ⟨35, _⟩ => ⟨S2x8x128x1, .f32⟩
  | .hbm, ⟨36, _⟩ => ⟨S_, .f32⟩
  | .hbm, ⟨37, _⟩ => ⟨S2x8x128, .f32⟩
  | .hbm, ⟨38, _⟩ => ⟨S2x8x128x1, .f32⟩
  | .hbm, ⟨39, _⟩ => ⟨S2x8x128x1, .f32⟩
  | .hbm, ⟨40, _⟩ => ⟨S2x128x8x1, .f32⟩
  | .hbm, ⟨41, _⟩ => ⟨S2x128x8x64, .f32⟩
  | .hbm, ⟨42, _⟩ => ⟨S2x128x8x64, .f32⟩
  | .hbm, ⟨43, _⟩ => ⟨S2x8x64x128, .f32⟩
  | .hbm, ⟨44, _⟩ => ⟨S2x128x8x64, .f32⟩
  | .hbm, ⟨45, _⟩ => ⟨S2x128x8x64, .f32⟩
  | .hbm, ⟨46, _⟩ => ⟨S2x1024x8x64, .bf16⟩
  | .hbm, ⟨47, _⟩ => ⟨S2x1024x8x64, .bf16⟩
  | .hbm, ⟨48, _⟩ => ⟨S2x8x128x1024, .f32⟩
  | .hbm, ⟨49, _⟩ => ⟨S2x8x128x1024, .bf16⟩
  | .hbm, ⟨50, _⟩ => ⟨S2x8x128x1024, .f32⟩
  | .hbm, ⟨51, _⟩ => ⟨S_, .f32⟩
  | .hbm, ⟨52, _⟩ => ⟨S2x8x128x1024, .f32⟩
  | .hbm, ⟨53, _⟩ => ⟨S2x8x128x1024, .f32⟩
  | .hbm, ⟨54, _⟩ => ⟨S_, .f32⟩
  | .hbm, ⟨55, _⟩ => ⟨S2x8x128, .f32⟩
  | .hbm, ⟨56, _⟩ => ⟨S2x8x128x1, .f32⟩
  | .hbm, ⟨57, _⟩ => ⟨S2x8x128x1, .f32⟩
  | .hbm, ⟨58, _⟩ => ⟨S2x8x128x1, .f32⟩
  | .hbm, ⟨59, _⟩ => ⟨S2x8x128x1, .f32⟩
  | .hbm, ⟨60, _⟩ => ⟨S2x8x128x1024, .f32⟩
  | .hbm, ⟨61, _⟩ => ⟨S2x8x128x1024, .f32⟩
  | .hbm, ⟨62, _⟩ => ⟨S2x8x128x1024, .f32⟩
  | .hbm, ⟨63, _⟩ => ⟨S2x8x128x1, .f32⟩
  | .hbm, ⟨64, _⟩ => ⟨S_, .f32⟩
  | .hbm, ⟨65, _⟩ => ⟨S2x8x128, .f32⟩
  | .hbm, ⟨66, _⟩ => ⟨S2x8x128x1, .f32⟩
  | .hbm, ⟨67, _⟩ => ⟨S2x8x128x1, .f32⟩
  | .hbm, ⟨68, _⟩ => ⟨S2x128x8x1, .f32⟩
  | .hbm, ⟨69, _⟩ => ⟨S2x128x8x64, .f32⟩
  | .hbm, ⟨70, _⟩ => ⟨S2x128x8x64, .f32⟩
  | .hbm, ⟨71, _⟩ => ⟨S2x8x64x128, .f32⟩
  | .hbm, ⟨72, _⟩ => ⟨S2x128x8x64, .f32⟩
  | .hbm, ⟨73, _⟩ => ⟨S2x128x8x64, .f32⟩
  | .hbm, ⟨74, _⟩ => ⟨S2x128x8x1, .f32⟩
  | .hbm, ⟨75, _⟩ => ⟨S2x128x8x64, .f32⟩
  | .hbm, ⟨76, _⟩ => ⟨S2x128x8x64, .f32⟩
  | .hbm, ⟨77, _⟩ => ⟨S2x128x512, .f32⟩
  | .hbm, ⟨78, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Proof.Ring.lean ====
/-
The ring of sixteen devices, the cells of the kernel's protocol and the index families its loops run over.

Device `c`'s neighbour number `r` (`r = 0 … 14`) is `nx c r = c + r + 1` round the ring; seen from that neighbour, `c` is
neighbour number `14 - r`. Every loop of the kernel goes through the fifteen neighbours in increasing order of `r`, so what
is still to be done before step `n` is indexed by `fromN n` and what has been done by `uptoN n`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

/-- Neighbour number `r` of device `c`: `r + 1` places further round the ring. -/
def nx (c : Dev nD) (r : Fin 15) : Dev nD := ⟨(c.val + r.val + 1) % 16, Nat.mod_lt _ (by decide)⟩

/-- Seen from `c`'s neighbour `r`, device `c` is neighbour `14 - r`. -/
theorem nx_rev (c : Dev nD) (r : Fin 15) : nx (nx c r) (Fin.rev r) = c := by
  have hc : c.val < 16 := c.isLt
  have hr := r.isLt
  apply Fin.ext; simp only [nx, Fin.val_rev]; omega

theorem nx_rev' (c : Dev nD) (r : Fin 15) : nx (nx c (Fin.rev r)) r = c := by
  have h := nx_rev c (Fin.rev r); rwa [Fin.rev_rev] at h

/-- No device is its own neighbour. -/
theorem nx_ne (c : Dev nD) (r : Fin 15) : nx c r ≠ c := by
  have hc : c.val < 16 := c.isLt
  have hr := r.isLt
  intro h; have := congrArg Fin.val h; simp only [nx] at this; omega

/-- Different numbers name different neighbours. -/
theorem nx_inj (c : Dev nD) : Function.Injective (nx c) := by
  intro r s h
  have hc : c.val < 16 := c.isLt
  have hr := r.isLt
  have hs := s.isLt
  have := congrArg Fin.val h; simp only [nx] at this; apply Fin.ext; omega

/-- Going `r + 1` places round the ring is a bijection of the devices. -/
def shift (r : Fin 15) : Dev nD ≃ Dev nD := ⟨fun c => nx c r, fun c => nx c (Fin.rev r), fun c => nx_rev c r, fun c => nx_rev' c r⟩

/-- The other devices are the fifteen neighbours. -/
theorem univ_erase (c : Dev nD) : (Finset.univ.erase c : Finset (Dev nD)) = Finset.univ.map ⟨nx c, nx_inj c⟩ := by
  symm; apply Finset.eq_of_subset_of_card_le
  · intro d hd
    obtain ⟨r, -, rfl⟩ := Finset.mem_map.mp hd
    exact Finset.mem_erase.mpr ⟨nx_ne c r, Finset.mem_univ _⟩
  · rw [Finset.card_erase_of_mem (Finset.mem_univ _), Finset.card_map]; decide

/-- Something for every device is it for `c` and for each of `c`'s neighbours. -/
theorem bigSep_dev {M : Type} [URA M] (c : Dev nD) (Φ : Dev nD → sProp M) :
    bigSep Finset.univ Φ = iprop(Φ c ∗ bigSep Finset.univ fun r : Fin 15 => Φ (nx c r)) := by
  rw [bigSep_univ_split c, univ_erase c, bigSep_map]; rfl

/-! ## Steps done and to be done -/

/-- The steps from number `n` on. -/
def fromN (n : ℕ) : Finset (Fin 15) := Finset.univ.filter fun r => n ≤ r.val
/-- The steps before number `n`. -/
def uptoN (n : ℕ) : Finset (Fin 15) := Finset.univ.filter fun r => r.val < n

theorem fromN_zero : fromN 0 = Finset.univ := by ext r; simp [fromN]
theorem fromN_last : fromN 15 = ∅ := by ext r; have := r.isLt; simp [fromN]
theorem uptoN_zero : uptoN 0 = ∅ := by ext r; simp [uptoN]
theorem uptoN_last : uptoN 15 = Finset.univ := by ext r; have := r.isLt; simp [uptoN]

theorem fromN_insert (r : Fin 15) : fromN r.val = insert r (fromN (r.val + 1)) := by
  ext s; simp only [fromN, Finset.mem_filter, Finset.mem_univ, true_and, Finset.mem_insert, Fin.ext_iff]; omega
theorem uptoN_insert (r : Fin 15) : uptoN (r.val + 1) = insert r (uptoN r.val) := by
  ext s; simp only [uptoN, Finset.mem_filter, Finset.mem_univ, true_and, Finset.mem_insert, Fin.ext_iff]; omega
theorem fromN_notMem (r : Fin 15) : r ∉ fromN (r.val + 1) := by simp [fromN]
theorem uptoN_notMem (r : Fin 15) : r ∉ uptoN r.val := by simp [uptoN]

/-- Before step `r`: that step's own resources, and those of the steps after it. -/
theorem bigSep_from {M : Type} [URA M] (r : Fin 15) (Φ : Fin 15 → sProp M) :
    bigSep (fromN r.val) Φ = iprop(Φ r ∗ bigSep (fromN (r.val + 1)) Φ) := by
  rw [fromN_insert, bigSep_insert (fromN_notMem r)]; rfl
/-- After step `r`: what that step left, and what the steps before it left. -/
theorem bigSep_upto {M : Type} [URA M] (r : Fin 15) (Φ : Fin 15 → sProp M) :
    bigSep (uptoN (r.val + 1)) Φ = iprop(Φ r ∗ bigSep (uptoN r.val) Φ) := by
  rw [uptoN_insert, bigSep_insert (uptoN_notMem r)]; rfl
theorem sum_from {A : Type} [AddCommMonoid A] (r : Fin 15) (f : Fin 15 → A) :
    ∑ s ∈ fromN r.val, f s = (∑ s ∈ fromN (r.val + 1), f s) + f r := by
  rw [fromN_insert, Finset.sum_insert (fromN_notMem r), add_comm]

/-! ## Cells -/

/-- The runtime's barrier semaphore. -/
abbrev barS : Sem sig := (SemArray.scalar (sig.barrier 0 rfl) : Sems sig S_).sem

theorem inb15 (r : Fin 15) : ∀ a, (![r.val] : Fin 1 → ℕ) a + S1.size a ≤ S15.size a := by revert r; decide

/-- Entry `r` of an array of fifteen semaphores. -/
abbrev ent (a : DmaSems sig S15) (r : Fin 15) : DmaSem sig :=
  ((a.slice (Rect.unit (s := S15) ![r.val] S1.size (inb15 r))).squeeze S_ squeezes_S1_S_).sem

/-- The four arrays of DMA semaphores: the exchange of partial sums — send, receive —, the gathering of the results — send,
    receive. -/
abbrev semArr : Fin 4 → DmaSems sig S15
  | 0 => cc0_scratch3
  | 1 => cc0_scratch4
  | 2 => cc0_scratch5
  | 3 => cc0_scratch6

/-- Entry `r` of array `k`. -/
def dsem (k : Fin 4) (r : Fin 15) : DmaSem sig := ent (semArr k) r

/-- Their indices among the DMA semaphores. -/
theorem dsem_val (k : Fin 4) (r : Fin 15) : (dsem k r).val = 6 + 15 * k.val + r.val := by
  revert k r; decide +kernel

theorem dsem_inj {k k' : Fin 4} {r r' : Fin 15} (h : dsem k r = dsem k' r') : k = k' ∧ r = r' := by
  have e := congrArg Fin.val h
  rw [dsem_val, dsem_val] at e
  have := r.isLt; have := r'.isLt
  constructor <;> apply Fin.ext <;> omega

abbrev barCell (c : Dev nD) : GSem nD τ sig := ((c : Thread nD τ), .reg barS)
abbrev dcell (c : Dev nD) (k : Fin 4) (r : Fin 15) : GSem nD τ sig := ((c : Thread nD τ), .dma (dsem k r))

/-- The protocol's cells of one device: the barrier, and the sixty entries. -/
abbrev CK : Type := Unit ⊕ (Fin 4 × Fin 15)
abbrev csem : CK → SemLoc sig
  | .inl _ => .reg barS
  | .inr kr => .dma (dsem kr.1 kr.2)
abbrev kcell (x : Dev nD × CK) : GSem nD τ sig := ((x.1 : Thread nD τ), csem x.2)

theorem csem_injective : Function.Injective csem := by
  rintro (⟨⟩ | ⟨k, r⟩) (⟨⟩ | ⟨k', r'⟩) h
  · rfl
  · exact absurd h (by simp [csem])
  · exact absurd h (by simp [csem])
  · simp only [csem, SemLoc.dma.injEq] at h
    obtain ⟨rfl, rfl⟩ := dsem_inj h; rfl

theorem kcell_injective : Function.Injective kcell := by
  rintro ⟨c, k⟩ ⟨c', k'⟩ h
  obtain ⟨h1, h2⟩ := Prod.mk.inj h
  exact Prod.ext (congrArg (fun t : Thread nD τ => t.1) h1) (csem_injective h2)

end Cert.K

end
-- ==== Proof.Contents.lean ====
/-
What each buffer of the kernel holds, as functions of the launch memory `m`, over any float values `F`.

`obufC c g` is device `c`'s partial sums after its eight stores over the old contents `g`; `recvC c` what device `c` receives
(slot `s`: device `s`'s partial sums of `c`'s sixteen rows); `accC c` the sixteen result rows `c` computes from them; `gathC` the
256 result rows of all devices; `outC` the result block.
-/
module

public import proofs.«01_k».proof.Proof.Ring

@[expose] public section

noncomputable section

namespace Cert.K

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## The memrefs the body works on -/

abbrev xM : Memref sig .tc .vmem S2x128x512 .bf16 := Memref.whole cc0_stg0_0
abbrev qM : Memref sig .tc .vmem S512x512 .bf16 := Memref.whole cc0_stg1_0
abbrev woM : Memref sig .tc .vmem S512x512 .bf16 := Memref.whole cc0_stg2_0
abbrev kM : Memref sig .tc .vmem S2x128x2x64 .bf16 := Memref.whole cc0_stg3_0
abbrev vM : Memref sig .tc .vmem S2x128x2x64 .bf16 := Memref.whole cc0_stg4_0
abbrev outM : Memref sig .tc .vmem S2x128x512 .f32 := Memref.whole cc0_stg5_0
abbrev oM : Memref sig .tc .vmem S1x256x640 .bf16 := Memref.whole cc0_scratch0
abbrev rM : Memref sig .tc .vmem S16x16x640 .bf16 := Memref.whole cc0_scratch1
abbrev aM : Memref sig .tc .vmem S256x512 .bf16 := Memref.whole cc0_scratch2

/-! ## The blocks of sixteen rows -/

theorem oInb (t : Dev nD) : ∀ a, (![0, 16 * t.val, 0] : Fin 3 → ℕ) a + S1x16x640.size a ≤ S1x256x640.size a := by revert t; decide
theorem rInb (s : Dev nD) : ∀ a, (![s.val, 0, 0] : Fin 3 → ℕ) a + S1x16x640.size a ≤ S16x16x640.size a := by revert s; decide
theorem aInb (s : Dev nD) : ∀ a, (![16 * s.val, 0] : Fin 2 → ℕ) a + S16x512.size a ≤ S256x512.size a := by revert s; decide

abbrev oR (t : Dev nD) : Rect S1x256x640 := Rect.unit (s := S1x256x640) ![0, 16 * t.val, 0] S1x16x640.size (oInb t)
abbrev rR (s : Dev nD) : Rect S16x16x640 := Rect.unit (s := S16x16x640) ![s.val, 0, 0] S1x16x640.size (rInb s)
abbrev aR (s : Dev nD) : Rect S256x512 := Rect.unit (s := S256x512) ![16 * s.val, 0] S16x512.size (aInb s)

/-- The partial sums' rows for device `t`; the receive slot of device `s`; the gathered rows of device `s`. -/
abbrev oS (t : Dev nD) : Memref sig .tc .vmem S1x16x640 .bf16 := oM.slice (oR t) (fun _ => rfl)
abbrev rS (s : Dev nD) : Memref sig .tc .vmem S1x16x640 .bf16 := rM.slice (rR s) (fun _ => rfl)
abbrev aS (s : Dev nD) : Memref sig .tc .vmem S16x512 .bf16 := aM.slice (aR s) (fun _ => rfl)

theorem mem_oS (t : Dev nD) (i : S1x256x640.Idx) :
    i ∈ (oS t).view.set ↔ 16 * t.val ≤ (i 1).val ∧ (i 1).val < 16 * t.val + 16 := by
  rw [show (oS t).view.set = (oR t).set from View.set_slice_whole _ _, Rect.mem_set_unit]
  constructor
  · intro h; exact h 1
  · intro h a
    have h0 : (i 0).val < 1 := (i 0).isLt
    have h2 : (i 2).val < 640 := (i 2).isLt
    fin_cases a
    · exact ⟨Nat.zero_le _, h0⟩
    · exact h
    · exact ⟨Nat.zero_le _, by show (i 2).val < 0 + 640; omega⟩

theorem mem_rS (s : Dev nD) (i : S16x16x640.Idx) : i ∈ (rS s).view.set ↔ (i 0).val = s.val := by
  rw [show (rS s).view.set = (rR s).set from View.set_slice_whole _ _, Rect.mem_set_unit]
  constructor
  · intro h; have := h 0; simp [S1x16x640] at this; omega
  · intro h a
    have h1 : (i 1).val < 16 := (i 1).isLt
    have h2 : (i 2).val < 640 := (i 2).isLt
    fin_cases a
    · exact ⟨h.symm.le, by show (i 0).val < s.val + 1; omega⟩
    · exact ⟨Nat.zero_le _, by show (i 1).val < 0 + 16; omega⟩
    · exact ⟨Nat.zero_le _, by show (i 2).val < 0 + 640; omega⟩

theorem mem_aS (s : Dev nD) (i : S256x512.Idx) :
    i ∈ (aS s).view.set ↔ 16 * s.val ≤ (i 0).val ∧ (i 0).val < 16 * s.val + 16 := by
  rw [show (aS s).view.set = (aR s).set from View.set_slice_whole _ _, Rect.mem_set_unit]
  constructor
  · intro h; exact h 0
  · intro h a
    have h1 : (i 1).val < 512 := (i 1).isLt
    fin_cases a
    · exact h
    · exact ⟨Nat.zero_le _, by show (i 1).val < 0 + 512; omega⟩

theorem oS_disj (s t : Dev nD) (h : s ≠ t) : Disjoint (oS s).view.set (oS t).view.set :=
  Finset.disjoint_left.mpr fun i hs ht => by
    rw [mem_oS] at hs ht; exact h (Fin.ext (by omega))
theorem rS_disj (s t : Dev nD) (h : s ≠ t) : Disjoint (rS s).view.set (rS t).view.set :=
  Finset.disjoint_left.mpr fun i hs ht => by
    rw [mem_rS] at hs ht; exact h (Fin.ext (by omega))
theorem aS_disj (s t : Dev nD) (h : s ≠ t) : Disjoint (aS s).view.set (aS t).view.set :=
  Finset.disjoint_left.mpr fun i hs ht => by
    rw [mem_aS] at hs ht; exact h (Fin.ext (by omega))

theorem oS_cover : (Finset.univ.biUnion fun t : Dev nD => (oS t).view.set) = (Finset.univ : Finset S1x256x640.Idx) := by
  ext i; simp only [Finset.mem_biUnion, Finset.mem_univ, true_and, iff_true]
  have h : (i 1).val < 256 := (i 1).isLt
  exact ⟨⟨(i 1).val / 16, show (i 1).val / 16 < 16 by omega⟩, (mem_oS _ _).mpr (show 16 * ((i 1).val / 16) ≤ (i 1).val ∧ (i 1).val < 16 * ((i 1).val / 16) + 16 by omega)⟩
theorem rS_cover : (Finset.univ.biUnion fun t : Dev nD => (rS t).view.set) = (Finset.univ : Finset S16x16x640.Idx) := by
  ext i; simp only [Finset.mem_biUnion, Finset.mem_univ, true_and, iff_true]
  exact ⟨⟨(i 0).val, (i 0).isLt⟩, (mem_rS _ _).mpr rfl⟩
theorem aS_cover : (Finset.univ.biUnion fun t : Dev nD => (aS t).view.set) = (Finset.univ : Finset S256x512.Idx) := by
  ext i; simp only [Finset.mem_biUnion, Finset.mem_univ, true_and, iff_true]
  have h : (i 0).val < 256 := (i 0).isLt
  exact ⟨⟨(i 0).val / 16, show (i 0).val / 16 < 16 by omega⟩, (mem_aS _ _).mpr (show 16 * ((i 0).val / 16) ≤ (i 0).val ∧ (i 0).val < 16 * ((i 0).val / 16) + 16 by omega)⟩

/-! ## The staged inputs -/

def xC (c : Dev nD) : (cc0_stg0_0 : Ref sig .tc).ty.Contents (Elt F) := (win0_0.blk (0 : Fin 1)).view.read (Elt F) (m ((c : Thread nD τ).loc main_arg0))
def qC (c : Dev nD) : (cc0_stg1_0 : Ref sig .tc).ty.Contents (Elt F) := (win0_1.blk (0 : Fin 1)).view.read (Elt F) (m ((c : Thread nD τ).loc main_arg1))
def woC (c : Dev nD) : (cc0_stg2_0 : Ref sig .tc).ty.Contents (Elt F) := (win0_2.blk (0 : Fin 1)).view.read (Elt F) (m ((c : Thread nD τ).loc main_arg4))
def kC (c : Dev nD) : (cc0_stg3_0 : Ref sig .tc).ty.Contents (Elt F) := (win0_3.blk (0 : Fin 1)).view.read (Elt F) (m ((c : Thread nD τ).loc main_arg2))
def vC (c : Dev nD) : (cc0_stg4_0 : Ref sig .tc).ty.Contents (Elt F) := (win0_4.blk (0 : Fin 1)).view.read (Elt F) (m ((c : Thread nD τ).loc main_arg3))

/-! ## What the body loads of them -/

abbrev ldQ (c : Dev nD) : Vec F S512x512 .bf16 :=
  qM.view.readAt (Elt F) (Rect.unit (s := S512x512) ![0, 0] S512x512.size inb_S512x512_S512x512_0_0).toLoadRect (qC m c)
abbrev ldWo (c : Dev nD) : Vec F S512x512 .bf16 :=
  woM.view.readAt (Elt F) (Rect.unit (s := S512x512) ![0, 0] S512x512.size inb_S512x512_S512x512_0_0).toLoadRect (woC m c)
/-- The two batches of `x`. -/
abbrev ldX0 (c : Dev nD) : Vec F S1x128x512 .bf16 :=
  xM.view.readAt (Elt F) (Rect.unit (s := S2x128x512) ![0, 0, 0] S1x128x512.size inb_S2x128x512_S1x128x512_0_0_0).toLoadRect (xC m c)
abbrev ldX1 (c : Dev nD) : Vec F S1x128x512 .bf16 :=
  xM.view.readAt (Elt F) (Rect.unit (s := S2x128x512) ![1, 0, 0] S1x128x512.size inb_S2x128x512_S1x128x512_1_0_0).toLoadRect (xC m c)
/-- The keys and values of batch `b` and key head `h`, `b h = 00, 01, 10, 11`. -/
abbrev ldK00 (c : Dev nD) : Vec F S1x128x1x64 .bf16 :=
  kM.view.readAt (Elt F) (Rect.unit (s := S2x128x2x64) ![0, 0, 0, 0] S1x128x1x64.size inb_S2x128x2x64_S1x128x1x64_0_0_0_0).toLoadRect (kC m c)
abbrev ldK01 (c : Dev nD) : Vec F S1x128x1x64 .bf16 :=
  kM.view.readAt (Elt F) (Rect.unit (s := S2x128x2x64) ![0, 0, 1, 0] S1x128x1x64.size inb_S2x128x2x64_S1x128x1x64_0_0_1_0).toLoadRect (kC m c)
abbrev ldK10 (c : Dev nD) : Vec F S1x128x1x64 .bf16 :=
  kM.view.readAt (Elt F) (Rect.unit (s := S2x128x2x64) ![1, 0, 0, 0] S1x128x1x64.size inb_S2x128x2x64_S1x128x1x64_1_0_0_0).toLoadRect (kC m c)
abbrev ldK11 (c : Dev nD) : Vec F S1x128x1x64 .bf16 :=
  kM.view.readAt (Elt F) (Rect.unit (s := S2x128x2x64) ![1, 0, 1, 0] S1x128x1x64.size inb_S2x128x2x64_S1x128x1x64_1_0_1_0).toLoadRect (kC m c)
abbrev ldV00 (c : Dev nD) : Vec F S1x128x1x64 .bf16 :=
  vM.view.readAt (Elt F) (Rect.unit (s := S2x128x2x64) ![0, 0, 0, 0] S1x128x1x64.size inb_S2x128x2x64_S1x128x1x64_0_0_0_0).toLoadRect (vC m c)
abbrev ldV01 (c : Dev nD) : Vec F S1x128x1x64 .bf16 :=
  vM.view.readAt (Elt F) (Rect.unit (s := S2x128x2x64) ![0, 0, 1, 0] S1x128x1x64.size inb_S2x128x2x64_S1x128x1x64_0_0_1_0).toLoadRect (vC m c)
abbrev ldV10 (c : Dev nD) : Vec F S1x128x1x64 .bf16 :=
  vM.view.readAt (Elt F) (Rect.unit (s := S2x128x2x64) ![1, 0, 0, 0] S1x128x1x64.size inb_S2x128x2x64_S1x128x1x64_1_0_0_0).toLoadRect (vC m c)
abbrev ldV11 (c : Dev nD) : Vec F S1x128x1x64 .bf16 :=
  vM.view.readAt (Elt F) (Rect.unit (s := S2x128x2x64) ![1, 0, 1, 0] S1x128x1x64.size inb_S2x128x2x64_S1x128x1x64_1_0_1_0).toLoadRect (vC m c)

/-- The queries of batch 0, heads 0–3 and 4–7, and of batch 1, each stacked head by head. -/
abbrev q00 (c : Dev nD) : FVec F S512x64 .bf16 := k0_pay4 (ldQ m c) (ldX0 m c)
abbrev q01 (c : Dev nD) : FVec F S512x64 .bf16 := k0_pay8 (k0_pay3 (ldQ m c) (ldX0 m c))
abbrev q10 (c : Dev nD) : FVec F S512x64 .bf16 := k0_pay13 (k0_pay1 (ldQ m c)) (ldX1 m c)
abbrev q11 (c : Dev nD) : FVec F S512x64 .bf16 := k0_pay17 (k0_pay12 (k0_pay1 (ldQ m c)) (ldX1 m c))

/-! ## The partial sums -/

abbrev OBuf (F : FTy → Type) : Type := (cc0_scratch0 : Ref sig .tc).ty.Contents (Elt F)

abbrev w1 (c : Dev nD) (g : OBuf F) : OBuf F :=
  (oM.access (Rect.unit (s := S1x256x640) ![0, 0, 0] S1x128x256.size inb_S1x256x640_S1x128x256_0_0_0)).write (Elt F) g
    (k0_pay6 (q00 m c) (ldK00 m c) (ldV00 m c)) Finset.univ
abbrev w2 (c : Dev nD) (g : OBuf F) : OBuf F :=
  (oM.access (Rect.unit (s := S1x256x640) ![0, 0, 512] S1x128x4.size inb_S1x256x640_S1x128x4_0_0_512)).write (Elt F) g
    (k0_pay7 (q00 m c) (ldK00 m c)) Finset.univ
abbrev w3 (c : Dev nD) (g : OBuf F) : OBuf F :=
  (oM.access (Rect.unit (s := S1x256x640) ![0, 0, 256] S1x128x256.size inb_S1x256x640_S1x128x256_0_0_256)).write (Elt F) g
    (k0_pay10 (q01 m c) (ldK01 m c) (ldV01 m c)) Finset.univ
abbrev w4 (c : Dev nD) (g : OBuf F) : OBuf F :=
  (oM.access (Rect.unit (s := S1x256x640) ![0, 0, 516] S1x128x4.size inb_S1x256x640_S1x128x4_0_0_516)).write (Elt F) g
    (k0_pay11 (q01 m c) (ldK01 m c)) Finset.univ
abbrev w5 (c : Dev nD) (g : OBuf F) : OBuf F :=
  (oM.access (Rect.unit (s := S1x256x640) ![0, 128, 0] S1x128x256.size inb_S1x256x640_S1x128x256_0_128_0)).write (Elt F) g
    (k0_pay15 (q10 m c) (ldK10 m c) (ldV10 m c)) Finset.univ
abbrev w6 (c : Dev nD) (g : OBuf F) : OBuf F :=
  (oM.access (Rect.unit (s := S1x256x640) ![0, 128, 512] S1x128x4.size inb_S1x256x640_S1x128x4_0_128_512)).write (Elt F) g
    (k0_pay16 (q10 m c) (ldK10 m c)) Finset.univ
abbrev w7 (c : Dev nD) (g : OBuf F) : OBuf F :=
  (oM.access (Rect.unit (s := S1x256x640) ![0, 128, 256] S1x128x256.size inb_S1x256x640_S1x128x256_0_128_256)).write (Elt F) g
    (k0_pay19 (q11 m c) (ldK11 m c) (ldV11 m c)) Finset.univ
abbrev w8 (c : Dev nD) (g : OBuf F) : OBuf F :=
  (oM.access (Rect.unit (s := S1x256x640) ![0, 128, 516] S1x128x4.size inb_S1x256x640_S1x128x4_0_128_516)).write (Elt F) g
    (k0_pay20 (q11 m c) (ldK11 m c)) Finset.univ

/-- Device `c`'s partial sums: the eight stores in order, over the old contents `g`. -/
def obufC (c : Dev nD) (g : OBuf F) : OBuf F :=
  w8 m c (w7 m c (w6 m c (w5 m c (w4 m c (w3 m c (w2 m c (w1 m c g)))))))

/-- A box of the partial sums' buffer that holds whole a range of rows and a range of lanes. -/
theorem mem_box {off size : Fin 3 → ℕ} {inb} {i : S1x256x640.Idx} (h0 : off 0 = 0) (s0 : size 0 = 1)
    (h1 : off 1 ≤ (i 1).val ∧ (i 1).val < off 1 + size 1) (h2 : off 2 ≤ (i 2).val ∧ (i 2).val < off 2 + size 2) :
    i ∈ (oM.access (Rect.unit (s := S1x256x640) off size inb)).setOn Finset.univ := by
  show i ∈ (oM.access (Rect.unit (s := S1x256x640) off size inb)).set
  rw [show (oM.access (Rect.unit (s := S1x256x640) off size inb)).set = _ from View.set_slice_whole _ _, Rect.mem_set_unit]
  intro a
  have hi : (i 0).val < 1 := (i 0).isLt
  fin_cases a
  · exact ⟨by show off 0 ≤ (i 0).val; omega, by show (i 0).val < off 0 + size 0; omega⟩
  · exact h1
  · exact h2

/-- The lanes below 520 of the partial sums do not depend on the old contents: the eight stores cover them. -/
theorem obufC_indep (c : Dev nD) (g g' : OBuf F) (i : S1x256x640.Idx) (hi : (i 2).val < 520) : obufC m c g i = obufC m c g' i := by
  have h1 : (i 1).val < 256 := (i 1).isLt
  unfold obufC
  refine View.write_congr (fun _ _ _ => rfl) fun h8 => ?_
  refine View.write_congr (fun _ _ _ => rfl) fun h7 => ?_
  refine View.write_congr (fun _ _ _ => rfl) fun h6 => ?_
  refine View.write_congr (fun _ _ _ => rfl) fun h5 => ?_
  refine View.write_congr (fun _ _ _ => rfl) fun h4 => ?_
  refine View.write_congr (fun _ _ _ => rfl) fun h3 => ?_
  refine View.write_congr (fun _ _ _ => rfl) fun h2 => ?_
  refine View.write_congr (fun _ _ _ => rfl) fun h1' => ?_
  exfalso
  rcases Nat.lt_or_ge (i 1).val 128 with hr | hr
  · rcases Nat.lt_or_ge (i 2).val 256 with hl | hl
    · exact h1' (mem_box rfl rfl ⟨Nat.zero_le _, hr⟩ ⟨Nat.zero_le _, hl⟩)
    rcases Nat.lt_or_ge (i 2).val 512 with hl' | hl'
    · exact h3 (mem_box rfl rfl ⟨Nat.zero_le _, hr⟩ ⟨hl, hl'⟩)
    rcases Nat.lt_or_ge (i 2).val 516 with hl'' | hl''
    · exact h2 (mem_box rfl rfl ⟨Nat.zero_le _, hr⟩ ⟨hl', hl''⟩)
    · exact h4 (mem_box rfl rfl ⟨Nat.zero_le _, hr⟩ ⟨hl'', hi⟩)
  · rcases Nat.lt_or_ge (i 2).val 256 with hl | hl
    · exact h5 (mem_box rfl rfl ⟨hr, h1⟩ ⟨Nat.zero_le _, hl⟩)
    rcases Nat.lt_or_ge (i 2).val 512 with hl' | hl'
    · exact h7 (mem_box rfl rfl ⟨hr, h1⟩ ⟨hl, hl'⟩)
    rcases Nat.lt_or_ge (i 2).val 516 with hl'' | hl''
    · exact h6 (mem_box rfl rfl ⟨hr, h1⟩ ⟨hl', hl''⟩)
    · exact h8 (mem_box rfl rfl ⟨hr, h1⟩ ⟨hl'', hi⟩)

/-! ## The exchange -/

/-- The place in a device's partial sums of what device `c` receives at `i`: `c`'s row block, the row and the lane of `i`. -/
def obIdx (c : Dev nD) (i : S16x16x640.Idx) : S1x256x640.Idx
  | ⟨0, _⟩ => ⟨0, Nat.one_pos⟩
  | ⟨1, _⟩ => ⟨16 * c.val + (i 1).val, by
      have h : (i 1).val < 16 := (i 1).isLt
      have hc : c.val < 16 := c.isLt
      show _ < 256
      omega⟩
  | ⟨2, _⟩ => ⟨(i 2).val, (i 2).isLt⟩

/-- What device `c` receives: in slot `s`, device `s`'s partial sums of `c`'s rows. -/
def recvC (c : Dev nD) : (cc0_scratch1 : Ref sig .tc).ty.Contents (Elt F) := fun i =>
  obufC m (⟨(i 0).val, (i 0).isLt⟩ : Dev nD) (m ((⟨(i 0).val, (i 0).isLt⟩ : Dev nD), (Proc.devRef .tc cc0_scratch0))) (obIdx c i)

/-- A row block of partial sums written into slot `s`, at a lane below 520: what `recvC` says. -/
theorem slot_write (c s : Dev nD) (g : OBuf F) (fd : (cc0_scratch1 : Ref sig .tc).ty.Contents (Elt F)) (i : S16x16x640.Idx)
    (hs : i ∈ (rS s).view.set) (hi : (i 2).val < 520) :
    (rS s).view.write (Elt F) fd ((oS c).view.read (Elt F) (obufC m s g)) Finset.univ i = recvC m c i := by
  have h0 := (mem_rS s i).mp hs
  obtain ⟨x, -, rfl⟩ := Finset.mem_map.mp hs
  rw [View.write_emb_of_mem _ _ (Finset.mem_univ x), View.read_apply, cast_cast, cast_eq]
  have e : (oS c).view.emb x = obIdx c ((rS s).view.emb x) := by
    funext a
    have hx : (x 0).val < 1 := (x 0).isLt
    fin_cases a <;> apply Fin.ext
    · show 0 + 1 * (x 0).val = 0; omega
    · show 16 * c.val + 1 * (x 1).val = 16 * c.val + (0 + 1 * (x 1).val); omega
    · show 0 + 1 * (x 2).val = 0 + 1 * (x 2).val; rfl
  rw [e]
  unfold recvC
  have es : (⟨((rS s).view.emb x 0).val, ((rS s).view.emb x 0).isLt⟩ : Dev nD) = s := Fin.ext h0
  rw [es]
  exact obufC_indep m s _ _ _ hi

/-- The two boxes of the received partial sums that the body loads: the weighted values, and the weights' sums. -/
abbrev recvO (c : Dev nD) : Vec F S16x16x512 .bf16 :=
  rM.view.readAt (Elt F) (Rect.unit (s := S16x16x640) ![0, 0, 0] S16x16x512.size inb_S16x16x640_S16x16x512_0_0_0).toLoadRect (recvC m c)
abbrev recvL (c : Dev nD) : Vec F S16x16x8 .bf16 :=
  rM.view.readAt (Elt F) (Rect.unit (s := S16x16x640) ![0, 0, 512] S16x16x8.size inb_S16x16x640_S16x16x8_0_0_512).toLoadRect (recvC m c)

theorem recvO_eq (c : Dev nD) (f : (cc0_scratch1 : Ref sig .tc).ty.Contents (Elt F))
    (h : ∀ i : S16x16x640.Idx, (i 2).val < 520 → f i = recvC m c i) :
    rM.view.readAt (Elt F) (Rect.unit (s := S16x16x640) ![0, 0, 0] S16x16x512.size inb_S16x16x640_S16x16x512_0_0_0).toLoadRect f = recvO m c :=
  View.readAt_congr fun i hi => h i (by
    obtain ⟨y, hy, rfl⟩ := Finset.mem_map.mp hi
    have := (Rect.mem_set_unit.mp hy 2).2
    change (y 2).val < 0 + 512 at this
    show (y 2).val < 520
    omega)
theorem recvL_eq (c : Dev nD) (f : (cc0_scratch1 : Ref sig .tc).ty.Contents (Elt F))
    (h : ∀ i : S16x16x640.Idx, (i 2).val < 520 → f i = recvC m c i) :
    rM.view.readAt (Elt F) (Rect.unit (s := S16x16x640) ![0, 0, 512] S16x16x8.size inb_S16x16x640_S16x16x8_0_0_512).toLoadRect f = recvL m c :=
  View.readAt_congr fun i hi => h i (by
    obtain ⟨y, hy, rfl⟩ := Finset.mem_map.mp hi
    have := (Rect.mem_set_unit.mp hy 2).2
    change (y 2).val < 512 + 8 at this
    show (y 2).val < 520
    omega)

/-! ## The results -/

/-- The sixteen result rows device `c` computes. -/
def accC (c : Dev nD) : FVec F S16x512 .bf16 := k0_pay23 (k0_pay2 (ldWo m c)) (k0_pay22 (recvO m c) (recvL m c))

/-- Row and lane within a device's sixteen rows. -/
def rowIdx (i : S256x512.Idx) : S16x512.Idx
  | ⟨0, _⟩ => ⟨(i 0).val % 16, Nat.mod_lt _ (by decide)⟩
  | ⟨1, _⟩ => ⟨(i 1).val, (i 1).isLt⟩

/-- The device that computes row `i 0`. -/
def rowDev (i : S256x512.Idx) : Dev nD := ⟨(i 0).val / 16, by
  have h : (i 0).val < 256 := (i 0).isLt
  show _ < 16
  omega⟩

/-- The gathered results: row `r` is row `r mod 16` of device `r / 16`'s. -/
def gathC : (cc0_scratch2 : Ref sig .tc).ty.Contents (Elt F) := fun i => accC m (rowDev i) (rowIdx i)

/-- Device `s`'s rows stored into its block are what `gathC` says there. -/
theorem gath_store (s : Dev nD) (f : (cc0_scratch2 : Ref sig .tc).ty.Contents (Elt F)) (i : S256x512.Idx) (hi : i ∈ (aS s).view.set) :
    (aS s).view.write (Elt F) f (accC m s) Finset.univ i = gathC m i := by
  have h0 := (mem_aS s i).mp hi
  obtain ⟨x, -, rfl⟩ := Finset.mem_map.mp hi
  rw [View.write_emb_of_mem _ _ (Finset.mem_univ x)]
  have hx : (x 0).val < 16 := (x 0).isLt
  have es : rowDev ((aS s).view.emb x) = s := Fin.ext (by
    show (16 * s.val + 1 * (x 0).val) / 16 = s.val; omega)
  have ex : rowIdx ((aS s).view.emb x) = x := by
    funext a; fin_cases a <;> apply Fin.ext
    · show (16 * s.val + 1 * (x 0).val) % 16 = (x 0).val; omega
    · show 0 + 1 * (x 1).val = (x 1).val; omega
  unfold gathC
  rw [es, ex]; rfl

/-- A device's rows copied from one device's gathered results into another's. -/
theorem gath_copy (s : Dev nD) (f : (cc0_scratch2 : Ref sig .tc).ty.Contents (Elt F)) (i : S256x512.Idx) (hi : i ∈ (aS s).view.set) :
    (aS s).view.write (Elt F) f ((aS s).view.read (Elt F) (gathC m)) Finset.univ i = gathC m i := by
  rw [View.write_read_eq_piecewise]
  exact Finset.piecewise_eq_of_mem _ _ _ hi

/-- The two halves of the gathered results that the body loads. -/
abbrev ldG0 : Vec F S128x512 .bf16 :=
  aM.view.readAt (Elt F) (Rect.unit (s := S256x512) ![0, 0] S128x512.size inb_S256x512_S128x512_0_0).toLoadRect (gathC m)
abbrev ldG1 : Vec F S128x512 .bf16 :=
  aM.view.readAt (Elt F) (Rect.unit (s := S256x512) ![128, 0] S128x512.size inb_S256x512_S128x512_128_0).toLoadRect (gathC m)

abbrev Out (F : FTy → Type) : Type := (cc0_stg5_0 : Ref sig .tc).ty.Contents (Elt F)

/-- The two stores of the result block, over old contents. -/
def outW (g : Out F) : Out F :=
  (outM.access (Rect.unit (s := S2x128x512) ![1, 0, 0] S1x128x512.size inb_S2x128x512_S1x128x512_1_0_0)).write (Elt F)
    ((outM.access (Rect.unit (s := S2x128x512) ![0, 0, 0] S1x128x512.size inb_S2x128x512_S1x128x512_0_0_0)).write (Elt F) g
      (k0_pay24 (ldG0 m)) Finset.univ)
    (k0_pay25 (ldG1 m)) Finset.univ

/-- The result block: the same on every device. -/
def outC : Out F := outW m (m ((⟨0, by decide⟩ : Dev nD), (Proc.devRef .tc cc0_stg5_0)))

/-- The two stores cover the block: what it held before does not matter. -/
theorem outW_indep (g : Out F) : outW m g = outC m := by
  unfold outC outW
  funext i
  refine View.write_congr (fun _ _ _ => rfl) fun h1 => ?_
  refine View.write_congr (fun _ _ _ => rfl) fun h0 => ?_
  exfalso
  have hb : (i 0).val < 2 := (i 0).isLt
  have hi : (i 1).val < 128 := (i 1).isLt
  have hl : (i 2).val < 512 := (i 2).isLt
  have key : ∀ (b : ℕ) (inb), (i 0).val = b → i ∈ (outM.access (Rect.unit (s := S2x128x512) ![b, 0, 0] S1x128x512.size inb)).setOn Finset.univ := by
    intro b inb h
    show i ∈ (outM.access (Rect.unit (s := S2x128x512) ![b, 0, 0] S1x128x512.size inb)).set
    rw [show (outM.access (Rect.unit (s := S2x128x512) ![b, 0, 0] S1x128x512.size inb)).set = _ from View.set_slice_whole _ _, Rect.mem_set_unit]
    intro a
    fin_cases a
    · exact ⟨h.symm.le, by show (i 0).val < b + 1; omega⟩
    · exact ⟨Nat.zero_le _, by show (i 1).val < 0 + 128; omega⟩
    · exact ⟨Nat.zero_le _, by show (i 2).val < 0 + 512; omega⟩
  rcases Nat.lt_or_ge (i 0).val 1 with h | h
  · exact h0 (key 0 _ (by omega))
  · exact h1 (key 1 _ (by omega))

end Cert.K

end
-- ==== Proof.Protocol.lean ====
/-
The kernel's protocol under the rounds library: what each cell's one round hands over, what each device owes at launch, and why no
wait can be waited for in a circle.

* A device's barrier cell: fifteen duties of one unit. Duty `j` is paid by the device's neighbour `j`, which hands over its
  own receive slot and its own gathered rows for this device: the places this device's two copies to that neighbour write.
* Entry `r` of the first send array: the copy of partial sums to neighbour `r`; back comes the row block it read.
* Entry `r` of the first receive array: paid by neighbour `r`, whose partial sums are then in its slot.
* Entry `r` of the second send array: the copy of results to neighbour `r`; back comes the share of the rows it read.
* Entry `r` of the second receive array: paid by neighbour `r`, whose result rows are then in place.
-/
module

public import proofs.«01_k».proof.Proof.Contents
public import Idealize.ShloMosaic.Lib.Transfers

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The blocks of rows, held -/

/-- Device `c` holds its partial sums' rows for device `t`. -/
def oPts (c t : Dev nD) (f : OBuf F) : sProp 𝕄 := (oS t).view.loc (c : Thread nD τ) ↦[(oS t).view.set]{fullShare} f
/-- Device `c`'s receive slot of device `s`. -/
def rPts (c s : Dev nD) (f : (cc0_scratch1 : Ref sig .tc).ty.Contents (Elt F)) : sProp 𝕄 :=
  (rS s).view.loc (c : Thread nD τ) ↦[(rS s).view.set]{fullShare} f
/-- Device `c`'s copy of device `s`'s result rows. -/
def aPts (c s : Dev nD) (q : PosShare TreeShare) (f : (cc0_scratch2 : Ref sig .tc).ty.Contents (Elt F)) : sProp 𝕄 :=
  (aS s).view.loc (c : Thread nD τ) ↦[(aS s).view.set]{q} f

/-- Slot `s` of device `c` holding device `s`'s partial sums of `c`'s rows (the lanes below 520). -/
def rGot (c s : Dev nD) : sProp 𝕄 :=
  iprop(∃ f, ⌜∀ i : S16x16x640.Idx, i ∈ (rS s).view.set → (i 2).val < 520 → f i = recvC m c i⌝ ∗ rPts c s f)

instance oPts_storable (c t : Dev nD) (f) : BI.Storable (upEmb : UEmb _ 𝕄) (oPts (F := F) c t f) := by unfold oPts; infer_instance
instance rPts_storable (c s : Dev nD) (f) : BI.Storable (upEmb : UEmb _ 𝕄) (rPts (F := F) c s f) := by unfold rPts; infer_instance
instance aPts_storable (c s : Dev nD) (q) (f) : BI.Storable (upEmb : UEmb _ 𝕄) (aPts (F := F) c s q f) := by unfold aPts; infer_instance
instance rGot_storable (c s : Dev nD) : BI.Storable (upEmb : UEmb _ 𝕄) (rGot (F := F) m c s) := by unfold rGot; infer_instance

/-! ## The schedule -/

/-- The credit of one block of partial sums, and of one block of result rows. -/
abbrev credR : ℕ := (rS (⟨0, by decide⟩ : Dev nD)).view.dmaCredit
abbrev credA : ℕ := (aS (⟨0, by decide⟩ : Dev nD)).view.dmaCredit

/-- The credit on array `k`'s cells. -/
def amt (k : Fin 4) : ℕ := if k.val < 2 then credR else credA

theorem amt_pos (k : Fin 4) : 0 < amt k := by
  unfold amt; split
  · exact View.dmaCredit_pos _ (by decide)
  · exact View.dmaCredit_pos _ (by decide)

/-- What neighbour `j` of device `c` hands over at the barrier. -/
def barPay (c : Dev nD) (j : Fin 15) : sProp 𝕄 := iprop((∃ f, rPts (nx c j) c f) ∗ ∃ f, aPts (nx c j) c fullShare f)

/-- What entry `r` of array `k` hands device `c`. -/
def pay (c : Dev nD) (k : Fin 4) (r : Fin 15) : sProp 𝕄 :=
  if k = 0 then iprop(∃ f, oPts c (nx c r) f)
  else if k = 1 then rGot m c (nx c r)
  else if k = 2 then aPts c c (shareTok fullShare 15 r) (gathC m)
  else aPts c (nx c r) fullShare (gathC m)

/-- Which of the protocol's cells a semaphore is. -/
def dec : SemLoc sig → Option CK
  | .reg s => if s = barS then some (.inl ()) else none
  | .dma s => if h : 6 ≤ s.val ∧ s.val < 66 then
      some (.inr (⟨(s.val - 6) / 15, by omega⟩, ⟨(s.val - 6) % 15, Nat.mod_lt _ (by decide)⟩)) else none

theorem dec_bar : dec (.reg barS) = some (.inl ()) := by simp only [dec, if_true]

theorem dec_dma (k : Fin 4) (r : Fin 15) : dec (.dma (dsem k r)) = some (.inr (k, r)) := by
  have e := dsem_val k r
  have hk := k.isLt; have hr := r.isLt
  simp only [dec]
  rw [dif_pos (by omega)]
  congr 3 <;> apply Fin.ext <;> simp only [e] <;> omega

theorem dec_csem (x : CK) : dec (csem x) = some x := by
  rcases x with ⟨⟩ | ⟨k, r⟩
  · exact dec_bar
  · exact dec_dma k r

/-- One round, round 0. -/
def sched : Rounds.Schedule (GSem nD τ sig) (Fin 15) 𝕄 where
  duties g r := if r = 0 ∧ g.1.2 = .tc then (match dec g.2 with | some (.inl _) => Finset.univ | some (.inr _) => {0} | none => ∅) else ∅
  unitless _ := False
  amount g _ _ := match dec g.2 with | some (.inr x) => amt x.1 | _ => 1
  payload g _ d := match dec g.2 with | some (.inl _) => barPay g.1.1 d | some (.inr x) => pay m g.1.1 x.1 x.2 | none => iprop(emp)
  amount_pos g _ _ _ := by
    split
    · exact amt_pos _
    · exact Nat.one_pos

instance sched_payload_storable (g : GSem nD τ sig) (r : ℕ) (d : Fin 15) :
    BI.Storable (upEmb : UEmb _ 𝕄) ((sched (F := F) m).payload g r d) := by
  show BI.Storable upEmb (match dec g.2 with | some (.inl _) => barPay g.1.1 d | some (.inr x) => pay m g.1.1 x.1 x.2 | none => iprop(emp))
  unfold barPay pay
  (repeat' split) <;> infer_instance

section Tables
variable (c : Dev nD) (k : Fin 4) (r : Fin 15)

theorem duties_bar : (sched (F := F) m).duties (barCell c) 0 = Finset.univ := by
  dsimp only [sched]; rw [if_pos ⟨rfl, rfl⟩, dec_bar]
theorem duties_dma : (sched (F := F) m).duties (dcell c k r) 0 = {0} := by
  dsimp only [sched]; rw [if_pos ⟨rfl, rfl⟩, dec_dma]
theorem duties_later (g : GSem nD τ sig) : ∀ r, 1 ≤ r → (sched (F := F) m).duties g r = ∅ :=
  fun r hr => by dsimp only [sched]; rw [if_neg fun h => by omega]
theorem amount_bar (d : Fin 15) : (sched (F := F) m).amount (barCell c) 0 d = 1 := by
  dsimp only [sched]; rw [dec_bar]
theorem amount_dma (d : Fin 15) : (sched (F := F) m).amount (dcell c k r) 0 d = amt k := by
  dsimp only [sched]; rw [dec_dma]
theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_dma : (sched (F := F) m).expect (dcell c k r) 0 = amt k := by
  unfold Schedule.expect Schedule.amountOf; rw [duties_dma, Finset.sum_singleton, amount_dma]
theorem payload_bar (d : Fin 15) : (sched (F := F) m).payload (barCell c) 0 d = barPay c d := by
  dsimp only [sched]; rw [dec_bar]
theorem payload_dma (d : Fin 15) : (sched (F := F) m).payload (dcell c k r) 0 d = pay m c k r := by
  dsimp only [sched]; rw [dec_dma]
/-- The barrier's round hands over what every neighbour paid. -/
theorem rest_bar : bigSep ((sched (F := F) m).duties (barCell c) 0 \ ∅) (fun d => (sched (F := F) m).payload (barCell c) 0 d)
    = bigSep Finset.univ fun j => barPay (F := F) c j := by
  rw [Finset.sdiff_empty, duties_bar]; exact bigSep_congr fun d _ => payload_bar m c d
theorem rest_dma : bigSep ((sched (F := F) m).duties (dcell c k r) 0 \ ∅) (fun d => (sched (F := F) m).payload (dcell c k r) 0 d)
    = pay m c k r := by
  rw [Finset.sdiff_empty, duties_dma, bigSep_singleton, payload_dma]

end Tables

/-! ## What each device owes; the levels -/

/-- Before step `n` of each loop: the signals, the copies of partial sums and the copies of results still to be made. -/
def oBar (c : Dev nD) (n : ℕ) : CellTallies nD τ sig Unit := ∑ r ∈ fromN n, tallyAt (barCell (nx c r)) () 1
def oRs (c : Dev nD) (n : ℕ) : CellTallies nD τ sig Unit := ∑ r ∈ fromN n, tallyAt (dcell (nx c r) 1 (Fin.rev r)) () (amt 1)
def oAg (c : Dev nD) (n : ℕ) : CellTallies nD τ sig Unit := ∑ r ∈ fromN n, tallyAt (dcell (nx c r) 3 (Fin.rev r)) () (amt 3)

/-- What device `c` owes at launch. -/
def O₀ (c : Dev nD) : CellTallies nD τ sig Unit := oAg c 0 + oRs c 0 + oBar c 0

theorem oBar_step (c : Dev nD) (r : Fin 15) : oBar c r.val = oBar c (r.val + 1) + tallyAt (barCell (nx c r)) () 1 := sum_from r _
theorem oRs_step (c : Dev nD) (r : Fin 15) : oRs c r.val = oRs c (r.val + 1) + tallyAt (dcell (nx c r) 1 (Fin.rev r)) () (amt 1) := sum_from r _
theorem oAg_step (c : Dev nD) (r : Fin 15) : oAg c r.val = oAg c (r.val + 1) + tallyAt (dcell (nx c r) 3 (Fin.rev r)) () (amt 3) := sum_from r _
theorem oBar_last (c : Dev nD) : oBar c 15 = 0 := by unfold oBar; rw [fromN_last, Finset.sum_empty]
theorem oRs_last (c : Dev nD) : oRs c 15 = 0 := by unfold oRs; rw [fromN_last, Finset.sum_empty]
theorem oAg_last (c : Dev nD) : oAg c 15 = 0 := by unfold oAg; rw [fromN_last, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below the arrivals of partial sums, these below the arrivals of results; everything else lowest. -/
def lv (g : GSem nD τ sig) (_ : Unit) : ℕ :=
  match dec g.2 with
  | some (.inl _) => 1
  | some (.inr x) => if x.1 = 1 then 2 else if x.1 = 3 then 3 else 0
  | none => 0

theorem lv_bar (c : Dev nD) (u : Unit) : lv (barCell c) u = 1 := by unfold lv; rw [dec_bar]
theorem lv_dma (c : Dev nD) (k : Fin 4) (r : Fin 15) (u : Unit) :
    lv (dcell c k r) u = if k = 1 then 2 else if k = 3 then 3 else 0 := by unfold lv; rw [dec_dma]

/-- A sum of tallies is positive only where a summand is. -/
theorem sum_pos {S : Finset (Fin 15)} {G : Fin 15 → GSem nD τ sig} {a : ℕ} {g : GSem nD τ sig} {u : Unit}
    (h : 0 < (∑ r ∈ S, tallyAt (G r) () a : CellTallies nD τ sig Unit) g u) : ∃ r, g = G r := by
  by_contra hn
  rw [not_exists] at hn
  have : (∑ r ∈ S, tallyAt (G r) () a : CellTallies nD τ sig Unit) g u = 0 := by
    rw [Finset.sum_apply, Finsupp.finset_sum_apply]
    exact Finset.sum_eq_zero fun r _ => by rw [tallyAt_apply, if_neg fun h => hn r h.1]
  omega

theorem oBar_pos {c : Dev nD} {n : ℕ} {g : GSem nD τ sig} {u : Unit} (h : 0 < oBar c n g u) : g.1.2 = .tc ∧ lv g u = 1 := by
  obtain ⟨r, rfl⟩ := sum_pos h; exact ⟨rfl, lv_bar _ _⟩
theorem oRs_pos {c : Dev nD} {n : ℕ} {g : GSem nD τ sig} {u : Unit} (h : 0 < oRs c n g u) : g.1.2 = .tc ∧ lv g u = 2 := by
  obtain ⟨r, rfl⟩ := sum_pos h; exact ⟨rfl, lv_dma _ _ _ _⟩
theorem oAg_pos {c : Dev nD} {n : ℕ} {g : GSem nD τ sig} {u : Unit} (h : 0 < oAg c n g u) : g.1.2 = .tc ∧ lv g u = 3 := by
  obtain ⟨r, rfl⟩ := sum_pos h; exact ⟨rfl, lv_dma _ _ _ _⟩

theorem add_pos_cases {A B : CellTallies nD τ sig Unit} {g : GSem nD τ sig} {u : Unit} (h : 0 < (A + B) g u) : 0 < A g u ∨ 0 < B g u := by
  rw [Pi.add_apply, Finsupp.add_apply] at h; omega

/-- A wait on a cell strictly below everything the device owes is allowed. -/
theorem mayWait (c : Dev nD) (sm : SemLoc sig) (n : ℕ) (O : CellTallies nD τ sig Unit) (hs : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-- At its barrier wait a device owes copies only. -/
theorem mayWait_bar (c : Dev nD) : (levAts L lv : sProp 𝕄) ⊢ MayWait (c : Thread nD τ) (.reg barS) () (oAg c 0 + oRs c 0) :=
  mayWait c _ 1 _ (lv_bar c ()).le fun g u h => by
    rcases add_pos_cases h with h | h
    · exact ⟨(oAg_pos h).1, by rw [(oAg_pos h).2]; decide⟩
    · exact ⟨(oRs_pos h).1, by rw [(oRs_pos h).2]; decide⟩

/-- At its waits for partial sums it owes copies of results only. -/
theorem mayWait_rs (c : Dev nD) (r : Fin 15) : (levAts L lv : sProp 𝕄) ⊢ MayWait (c : Thread nD τ) (.dma (dsem 1 r)) () (oAg c 0) :=
  mayWait c _ 2 _ (lv_dma c 1 r ()).le fun g u h => ⟨(oAg_pos h).1, by rw [(oAg_pos h).2]; decide⟩

/-- A wait of the launch's own, on no cell of the protocol, comes before everything. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait c _ 0 _ ?_ fun g u h => ?_
    · simp only [lv, dec]; rw [dif_neg (fun h => by omega)]
    · rcases add_pos_cases h with h | h
      · rcases add_pos_cases h with h | h
        · exact ⟨(oAg_pos h).1, by rw [(oAg_pos h).2]; decide⟩
        · exact ⟨(oRs_pos h).1, by rw [(oRs_pos h).2]; decide⟩
      · exact ⟨(oBar_pos h).1, by rw [(oBar_pos h).2]; decide⟩
  · rw [MayWait_zero]; iintro -; iempintro

/-! ## The records every device starts from -/

/-- Every cell's invariant, under the name the launch gave it, and that every cell has reached round 0. -/
def records (K : Dev nD × CK → ℕ) : sProp 𝕄 :=
  bigSep Finset.univ fun x => iprop(cellInv ER (sched m) (K x) (kcell x) ∗ reached ER (kcell x) 0)

instance records_persistent (K : Dev nD × CK → ℕ) : BI.Persistent (records (F := F) m K) := by unfold records; infer_instance

theorem inv_bar (K : Dev nD × CK → ℕ) (c : Dev nD) :
    records (F := F) m K ⊢ iprop(cellInv ER (sched m) (K (c, .inl ())) (barCell c) ∗ reached ER (barCell c) 0) :=
  bigSep_elim (i := (c, Sum.inl ())) (Finset.mem_univ _)
theorem inv_dma (K : Dev nD × CK → ℕ) (c : Dev nD) (k : Fin 4) (r : Fin 15) :
    records (F := F) m K ⊢ iprop(cellInv ER (sched m) (K (c, .inr (k, r))) (dcell c k r) ∗ reached ER (dcell c k r) 0) :=
  bigSep_elim (i := (c, Sum.inr (k, r))) (Finset.mem_univ _)

end Cert.K

end
-- ==== Proof.Steps.lean ====
/-
One step of each of the kernel's loops, with the state before and after it: a signal, a copy of partial sums, a copy of results, a wait
for a copy. Each loop has fifteen steps; step `n` serves neighbour `n` of the device, and the state says what is still in hand for
the steps from `n` on and what the steps before it have brought.
-/
module

public import proofs.«01_k».proof.Proof.Protocol

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ) (c : Dev nD)

/-- What the device owes, whatever it has waited for. -/
def owesS (O : CellTallies nD τ sig Unit) : sProp 𝕄 := iprop(∃ W, owes (c : Thread nD τ) O W)

/-! ## A signal -/

/-- Before signal `n`: the tokens, the receive slots and the gathered rows still to be handed over. -/
def sigSt (n : ℕ) : sProp 𝕄 :=
  iprop(records m K ∗ (bigSep (fromN n) fun r => iprop(dutyTok ER (barCell (nx c r)) 0 (Fin.rev r) ∗ barPay (F := F) (nx c r) (Fin.rev r)))
    ∗ owesS c (oAg c 0 + oRs c 0 + oBar c n))

theorem sig_step (j : ℕ) (hj : j < 15) {d : ℕ} {hd : d < nD} (hn : d = (c.val + j + 1) % 16) {q : Sem sig} (hq : q = barS) {w : ℕ} (hw : w = 1)
    {α : Type} {Q : α → sProp 𝕄} {k : PUnit → Prog (TpuEff nD τ sig (Elt F) Λ₀ .tc) α} :
    sigSt m K c j
      ⊢ iprop((sigSt m K c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc (⟨d, hd⟩ : Dev nD) : Thread nD τ) q w) k) Q) := by
  obtain ⟨r, hr⟩ : ∃ r : Fin 15, (⟨j, hj⟩ : Fin 15) = r := ⟨_, rfl⟩
  obtain rfl : j = r.val := congrArg Fin.val hr
  subst hq hw
  have hn : (⟨d, hd⟩ : Dev nD) = nx c r := Fin.ext hn
  rw [hn]
  unfold sigSt owesS
  rw [bigSep_from]
  iintro ⟨#HR, ⟨⟨Ht, Hp⟩, Hrest⟩, ⟨%W, HO⟩⟩ Hk
  ihave HI := (inv_bar m K (nx c r)) $$ HR
  icases HI with ⟨#HI, #Hr⟩
  have hO : oAg c 0 + oRs c 0 + oBar c r.val = oAg c 0 + oRs c 0 + oBar c (r.val + 1) + tallyAt (barCell (nx c r)) () 1 := by
    rw [oBar_step, ← add_assoc]
  iapply (Rounds.wp_signal 𝒱₀ ER (sched m) (c : Thread nD τ) none (dst := (nx c r : Thread nD τ)) (κ := K (nx c r, .inl ()))
      (d := Fin.rev r) (by rw [duties_bar]; exact Finset.mem_univ _) (amount_bar m (nx c r) _) () (oAg c 0 + oRs c 0 + oBar c (r.val + 1)) hO) $$ [HO Ht Hp]
  · isplitr; · iexact HI
    isplitl [HO]; · iexact HO
    isplitl [Ht]; · iexact Ht
    isplitl [Hp]; · rw [payload_bar]; iexact Hp
    iexact Hr
  iintro HO
  iapply Hk
  isplitr; · iexact HR
  isplitl [Hrest]; · iexact Hrest
  iexists W; iexact HO

/-! ## The barrier wait -/

theorem bar_step {q : Sem sig} (hq : q = barS) {w : ℕ} (hw : w = 15)
    {α : Type} {Q : α → sProp 𝕄} {k : PUnit → Prog (TpuEff nD τ sig (Elt F) Λ₀ .tc) α} :
    iprop(records m K ∗ levAts L lv ∗ cred (tallyAt (barCell c) () 15) ∗ atPos ER (barCell c) 0 ∅ 0 ∗ owesS c (oAg c 0 + oRs c 0))
      ⊢ iprop(((owesS c (oAg c 0 + oRs c 0) ∗ atPos ER (barCell c) 1 ∅ 0 ∗ bigSep Finset.univ fun j => barPay (F := F) c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait q w) k) Q) := by
  subst hq hw
  unfold owesS
  iintro ⟨#HR, #Hlev, Hc, Ha, ⟨%W, HO⟩⟩ Hk
  ihave HI := (inv_bar m K c) $$ HR
  icases HI with ⟨#HI, -⟩
  iapply (Rounds.wp_wait_rest_token 𝒱₀ ER (sched m) (c : Thread nD τ) none (κ := K (c, .inl ()))
      (wpE_semWait_eq 𝒱₀ (c : Thread nD τ) none Set.univ) (Set.mem_univ _) () (O := oAg c 0 + oRs c 0) (W := W) (R := 0) (m := 0) (T := ∅)
      (by rw [expect_bar])) $$ [Hc HO Ha]
  · isplitr; · iexact HI
    isplitl [Hc]; · iexact Hc
    isplitl [HO]; · iexact HO
    isplitr; · iapply (mayWait_bar c); iexact Hlev
    iexact Ha
  iintro ⟨HO, Ha, -, Hp⟩
  ihave Hp := (Entails.of_eq (rest_bar m c)) $$ Hp
  iapply Hk
  isplitl [HO]; · iexists _; iexact HO
  isplitl [Ha]; · iexact Ha
  iexact Hp

/-! ## A copy of partial sums -/

/-- Before copy `n` of partial sums, the partial sums being `obufC m c g`: the row blocks still to be sent with the slots they go to;
    the credits of the copies made. -/
def rsSt (g : OBuf F) (n : ℕ) : sProp 𝕄 :=
  iprop(records m K
    ∗ (bigSep (fromN n) fun r => iprop(oPts c (nx c r) (obufC m c g) ∗ (∃ f, rPts (F := F) (nx c r) c f)
        ∗ dutyTok ER (dcell c 0 r) 0 0 ∗ dutyTok ER (dcell (nx c r) 1 (Fin.rev r)) 0 0))
    ∗ (bigSep (uptoN n) fun r => cred (tallyAt (dcell c 0 r) () (amt 0)))
    ∗ owesS c (oAg c 0 + oRs c n))

/-- The row block a copy has read goes back to the sender. -/
theorem pay_block (r : Fin 15) (f : OBuf F) :
    ((oS (nx c r)).view.loc (c : Thread nD τ) ↦[(oS (nx c r)).view.set]{fullShare} f : sProp 𝕄) ⊢ (sched (F := F) m).payload (dcell c 0 r) 0 0 := by
  rw [payload_dma]; unfold pay; rw [if_pos rfl]; unfold oPts; iintro H; iexists _; iexact H

/-- The slot a copy has written holds the sender's partial sums. -/
theorem pay_slot (g : OBuf F) (r : Fin 15) (fd : (cc0_scratch1 : Ref sig .tc).ty.Contents (Elt F)) :
    ((rS c).view.loc (nx c r : Thread nD τ) ↦[(rS c).view.set]{fullShare}
        ((rS c).view.write (Elt F) fd ((oS (nx c r)).view.read (Elt F) (obufC m c g)) Finset.univ) : sProp 𝕄)
      ⊢ (sched (F := F) m).payload (dcell (nx c r) 1 (Fin.rev r)) 0 0 := by
  rw [payload_dma]; unfold pay; rw [if_neg (by decide), if_pos rfl, nx_rev]; unfold rGot rPts
  iintro H; iexists _; isplitr
  · ipureintro; exact fun i hi hl => slot_write m (nx c r) c g fd i hi hl
  iexact H

theorem amount_slot (q : DmaSem sig) : (rS c).view.amount (.dma q) = amt 0 := rfl
theorem amount_rows (q : DmaSem sig) : (aS c).view.amount (.dma q) = amt 2 := rfl

theorem rs_send (g : OBuf F) (j : ℕ) (hj : j < 15) {d : ℕ} {hd : d < nD} (hn : d = (c.val + j + 1) % 16) {q₁ q₂ : DmaSem sig} (h₁ : q₁ = dsem 0 ⟨j, hj⟩) (h₂ : q₂ = dsem 1 (Fin.rev ⟨j, hj⟩))
    {src dst : Memref sig .tc .vmem S1x16x640 .bf16} (hs : src = oS (nx c ⟨j, hj⟩)) (ht : dst = rS c)
    {hsc : dst.view.ref.isScScratch = false} {hsrc : src.view.WordExact} {hdst : dst.view.WordExact}
    {hsem : DmaTarget.Typed .vmem (.dma q₂) (.remote (Dev.tc (⟨d, hd⟩ : Dev nD) : Thread nD τ) dst (.dma q₁) hsc)}
    {α : Type} {Q : α → sProp 𝕄} {k : PUnit → Prog (TpuEff nD τ sig (Elt F) Λ₀ .tc) α} :
    rsSt m K c g j
      ⊢ iprop((rsSt m K c g (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (⟨d, hd⟩ : Dev nD) : Thread nD τ) dst (.dma q₁) hsc) (.dma q₂) hsrc hdst hsem) k) Q) := by
  obtain ⟨r, hr⟩ : ∃ r : Fin 15, (⟨j, hj⟩ : Fin 15) = r := ⟨_, rfl⟩
  obtain rfl : j = r.val := congrArg Fin.val hr
  rw [hr] at h₁ h₂ hs
  generalize hdev : (⟨d, hd⟩ : Dev nD) = n at hsc hsem ⊢
  obtain rfl : n = nx c r := by rw [← hdev]; exact Fin.ext hn
  subst h₁ h₂ hs ht
  unfold rsSt owesS
  rw [bigSep_from, bigSep_upto]
  iintro ⟨#HR, ⟨⟨Ho, ⟨%fd, Hd⟩, Ht₁, Ht₂⟩, Hrest⟩, Hcs, ⟨%W, HO⟩⟩ Hk
  ihave HI := (inv_dma m K c 0 r) $$ HR
  icases HI with ⟨#HI₁, #Hr₁⟩
  ihave HI := (inv_dma m K (nx c r) 1 (Fin.rev r)) $$ HR
  icases HI with ⟨#HI₂, #Hr₂⟩
  have hO : oAg c 0 + oRs c r.val = oAg c 0 + oRs c (r.val + 1) + tallyAt (dcell (nx c r) 1 (Fin.rev r)) () (amt 0) := by
    rw [oRs_step, ← add_assoc, show amt 1 = amt 0 from rfl]
  unfold oPts rPts
  iapply (Rounds.wp_send_pointsTo 𝒱₀ ER (sched m) (c : Thread nD τ) none (κ₁ := K (c, .inr (0, r))) (κ₂ := K (nx c r, .inr (1, Fin.rev r)))
      (r₁ := 0) (r₂ := 0) (d₁ := 0) (d₂ := 0) (fd := fd)
      (by rw [duties_dma]; exact Finset.mem_singleton_self _) (by rw [duties_dma]; exact Finset.mem_singleton_self _)
      () () (amt 0) (amount_slot c _) (amount_dma m c 0 r 0) (amount_dma m (nx c r) 1 (Fin.rev r) 0) (oAg c 0 + oRs c (r.val + 1)) hO (W := W)
      (pay_block m c r _) (pay_slot m c g r fd)) $$ [Ho Hd HO Ht₁ Ht₂]
  · isplitr; · iexact HI₁
    isplitr; · iexact HI₂
    isplitl [Ho]; · iexact Ho
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitr; · iexact HR
  isplitl [Hrest]; · iexact Hrest
  isplitl [Hc Hcs]
  · isplitl [Hc]; · iexact Hc
    iexact Hcs
  iexists W; iexact HO

/-! ## A copy of results -/

/-- Before copy `n` of this device's result rows: the shares of them still to be lent with the places they go to; the credits of the copies made. -/
def agSt (n : ℕ) : sProp 𝕄 :=
  iprop(records m K
    ∗ (bigSep (fromN n) fun r => iprop(aPts c c (shareTok fullShare 15 r) (gathC m) ∗ (∃ f, aPts (F := F) (nx c r) c fullShare f)
        ∗ dutyTok ER (dcell c 2 r) 0 0 ∗ dutyTok ER (dcell (nx c r) 3 (Fin.rev r)) 0 0))
    ∗ (bigSep (uptoN n) fun r => cred (tallyAt (dcell c 2 r) () (amt 2)))
    ∗ owesS c (oAg c n))

/-- The share of its rows a copy has read goes back to the sender. -/
theorem pay_share (r : Fin 15) :
    ((aS c).view.loc (c : Thread nD τ) ↦[(aS c).view.set]{shareTok fullShare 15 r} gathC m : sProp 𝕄)
      ⊢ (sched (F := F) m).payload (dcell c 2 r) 0 0 := by
  rw [payload_dma]; unfold pay; rw [if_neg (by decide), if_neg (by decide), if_pos rfl]; unfold aPts; exact BI.Entails.refl _

/-- The rows a copy has written are the sender's results. -/
theorem pay_rows (r : Fin 15) (fd : (cc0_scratch2 : Ref sig .tc).ty.Contents (Elt F)) :
    ((aS c).view.loc (nx c r : Thread nD τ) ↦[(aS c).view.set]{fullShare}
        ((aS c).view.write (Elt F) fd ((aS c).view.read (Elt F) (gathC m)) Finset.univ) : sProp 𝕄)
      ⊢ (sched (F := F) m).payload (dcell (nx c r) 3 (Fin.rev r)) 0 0 := by
  rw [payload_dma]; unfold pay; rw [if_neg (by decide), if_neg (by decide), if_neg (by decide), nx_rev]; unfold aPts
  exact Entails.of_eq (pointsTo_congr fun i hi => gath_copy m c fd i hi)

theorem ag_send (j : ℕ) (hj : j < 15) {d : ℕ} {hd : d < nD} (hn : d = (c.val + j + 1) % 16) {q₁ q₂ : DmaSem sig} (h₁ : q₁ = dsem 2 ⟨j, hj⟩) (h₂ : q₂ = dsem 3 (Fin.rev ⟨j, hj⟩))
    {src dst : Memref sig .tc .vmem S16x512 .bf16} (hs : src = aS c) (ht : dst = aS c)
    {hsc : dst.view.ref.isScScratch = false} {hsrc : src.view.WordExact} {hdst : dst.view.WordExact}
    {hsem : DmaTarget.Typed .vmem (.dma q₂) (.remote (Dev.tc (⟨d, hd⟩ : Dev nD) : Thread nD τ) dst (.dma q₁) hsc)}
    {α : Type} {Q : α → sProp 𝕄} {k : PUnit → Prog (TpuEff nD τ sig (Elt F) Λ₀ .tc) α} :
    agSt m K c j
      ⊢ iprop((agSt m K c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc (⟨d, hd⟩ : Dev nD) : Thread nD τ) dst (.dma q₁) hsc) (.dma q₂) hsrc hdst hsem) k) Q) := by
  obtain ⟨r, hr⟩ : ∃ r : Fin 15, (⟨j, hj⟩ : Fin 15) = r := ⟨_, rfl⟩
  obtain rfl : j = r.val := congrArg Fin.val hr
  rw [hr] at h₁ h₂
  generalize hdev : (⟨d, hd⟩ : Dev nD) = n at hsc hsem ⊢
  obtain rfl : n = nx c r := by rw [← hdev]; exact Fin.ext hn
  subst h₁ h₂ hs ht
  unfold agSt owesS
  rw [bigSep_from, bigSep_upto]
  iintro ⟨#HR, ⟨⟨Ho, ⟨%fd, Hd⟩, Ht₁, Ht₂⟩, Hrest⟩, Hcs, ⟨%W, HO⟩⟩ Hk
  ihave HI := (inv_dma m K c 2 r) $$ HR
  icases HI with ⟨#HI₁, #Hr₁⟩
  ihave HI := (inv_dma m K (nx c r) 3 (Fin.rev r)) $$ HR
  icases HI with ⟨#HI₂, #Hr₂⟩
  have hO : oAg c r.val = oAg c (r.val + 1) + tallyAt (dcell (nx c r) 3 (Fin.rev r)) () (amt 2) := by
    rw [oAg_step, show amt 3 = amt 2 from rfl]
  unfold aPts
  iapply (Rounds.wp_send_pointsTo 𝒱₀ ER (sched m) (c : Thread nD τ) none (κ₁ := K (c, .inr (2, r))) (κ₂ := K (nx c r, .inr (3, Fin.rev r)))
      (r₁ := 0) (r₂ := 0) (d₁ := 0) (d₂ := 0) (fd := fd)
      (by rw [duties_dma]; exact Finset.mem_singleton_self _) (by rw [duties_dma]; exact Finset.mem_singleton_self _)
      () () (amt 2) (amount_rows c _) (amount_dma m c 2 r 0) (amount_dma m (nx c r) 3 (Fin.rev r) 0) (oAg c (r.val + 1)) hO (W := W)
      (pay_share m c r) (pay_rows m c r fd)) $$ [Ho Hd HO Ht₁ Ht₂]
  · isplitr; · iexact HI₁
    isplitr; · iexact HI₂
    isplitl [Ho]; · iexact Ho
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitr; · iexact HR
  isplitl [Hrest]; · iexact Hrest
  isplitl [Hc Hcs]
  · isplitl [Hc]; · iexact Hc
    iexact Hcs
  iexists W; iexact HO

/-! ## A wait for a copy -/

/-- Before wait `n` on array `k`, the waits taken in the order `σ`, the device owing `O`: the credits and positions of the waits to come; what the
    waits made have brought. -/
def waitSt (k : Fin 4) (σ : Fin 15 → Fin 15) (O : CellTallies nD τ sig Unit) (n : ℕ) : sProp 𝕄 :=
  iprop((records m K ∗ levAts L lv)
    ∗ (bigSep (fromN n) fun r => iprop(cred (tallyAt (dcell c k (σ r)) () (amt k)) ∗ atPos ER (dcell c k (σ r)) 0 ∅ 0))
    ∗ (bigSep (uptoN n) fun r => iprop(pay m c k (σ r) ∗ atPos ER (dcell c k (σ r)) 1 ∅ 0))
    ∗ owesS c O)

theorem wait_step (k : Fin 4) (σ : Fin 15 → Fin 15) (O : CellTallies nD τ sig Unit)
    (hO : ∀ r, (levAts L lv : sProp 𝕄) ⊢ MayWait (c : Thread nD τ) (.dma (dsem k r)) () O)
    (j : ℕ) (hj : j < 15) {q : DmaSem sig} (hq : q = dsem k (σ ⟨j, hj⟩)) {s : Shape} {src dst : Memref sig .tc .vmem s .bf16}
    (hN : dst.view.dmaCredit = amt k) {hsrc : src.view.WordExact} {hdst : dst.view.WordExact}
    {α : Type} {Q : α → sProp 𝕄} {kk : PUnit → Prog (TpuEff nD τ sig (Elt F) Λ₀ .tc) α} :
    waitSt m K c k σ O j
      ⊢ iprop((waitSt m K c k σ O (j + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  obtain ⟨r, hr⟩ : ∃ r : Fin 15, (⟨j, hj⟩ : Fin 15) = r := ⟨_, rfl⟩
  obtain rfl : j = r.val := congrArg Fin.val hr
  rw [hr] at hq
  subst hq
  unfold waitSt owesS
  rw [bigSep_from, bigSep_upto]
  iintro ⟨⟨#HR, #Hlev⟩, ⟨⟨Hc, Ha⟩, Hrest⟩, Hdone, ⟨%W, HO⟩⟩ Hk
  ihave HI := (inv_dma m K c k (σ r)) $$ HR
  icases HI with ⟨#HI, -⟩
  rw [← hN]
  iapply (Rounds.wp_wait_rest_token 𝒱₀ ER (sched m) (c : Thread nD τ) none (κ := K (c, .inr (k, σ r)))
      (wpE_waitDma2_eq 𝒱₀ (c : Thread nD τ) none Set.univ) (Set.mem_univ _) () (O := O) (W := W) (R := 0) (m := 0) (T := ∅)
      (by rw [Nat.zero_add, expect_dma, hN])) $$ [Hc HO Ha]
  · isplitr; · iexact HI
    isplitl [Hc]; · iexact Hc
    isplitl [HO]; · iexact HO
    isplitr; · iapply (hO (σ r)); iexact Hlev
    iexact Ha
  iintro ⟨HO, Ha, -, Hp⟩
  ihave Hp := (Entails.of_eq (rest_dma m c k (σ r))) $$ Hp
  iapply Hk
  isplitr
  · isplitr; · iexact HR
    iexact Hlev
  isplitl [Hrest]; · iexact Hrest
  isplitl [Hp Ha Hdone]
  · isplitl [Hp Ha]
    · isplitl [Hp]; · iexact Hp
      iexact Ha
    iexact Hdone
  iexists _; iexact HO

/-- A device owing nothing may wait for anything. -/
theorem mayWait_none (sm : SemLoc sig) : (levAts L lv : sProp 𝕄) ⊢ MayWait (c : Thread nD τ) sm () 0 := by
  rw [MayWait_zero]; iintro -; iempintro

/-! ## The kernel's places and partners -/

theorem src_block (r : Fin 15) {w : BitVec 32} (hw : w = BitVec.ofNat 32 (1 + r.val)) (hi) (hs) :
    oM.slice (Rect.unit (s := S1x256x640) (k0_off4 c w) S1x16x640.size hi) hs = oS (nx c r) := by
  subst hw; exact Memref.slice_unit_congr oM (k0_off4_eq c r) _ _ _ _
theorem dst_slot (hi) (hs) : rM.slice (Rect.unit (s := S16x16x640) (k0_off3 c) S1x16x640.size hi) hs = rS c :=
  Memref.slice_unit_congr rM (k0_off3_eq c) _ _ _ _
theorem own_rows (hi) (hs) : aM.slice (Rect.unit (s := S256x512) (k0_off7 c) S16x512.size hi) hs = aS c :=
  Memref.slice_unit_congr aM (k0_off7_eq c) _ _ _ _

theorem credit_slot (off : Fin 3 → ℕ) (hi) (hs) : (rM.slice (Rect.unit (s := S16x16x640) off S1x16x640.size hi) hs).view.dmaCredit = amt 1 := rfl
theorem credit_block (off : Fin 3 → ℕ) (hi) (hs) : (oM.slice (Rect.unit (s := S1x256x640) off S1x16x640.size hi) hs).view.dmaCredit = amt 0 := rfl
theorem credit_rows (off : Fin 2 → ℕ) (k : Fin 4) (hk : 2 ≤ k.val) (hi) (hs) :
    (aM.slice (Rect.unit (s := S256x512) off S16x512.size hi) hs).view.dmaCredit = amt k := by
  unfold amt; rw [if_neg (by omega)]; rfl

/-! ## The steps at the kernel's own places -/

section At
variable (j : ℕ) (hj : j < 15)

/-- Copy `j` of partial sums. -/
theorem rs_at (g : OBuf F) {d : ℕ} {hd : d < nD} (hn : d = (c.val + j + 1) % 16) {w : BitVec 32} (hw : w = BitVec.ofNat 32 (1 + j))
    {q₁ q₂ : DmaSem sig} (h₁ : q₁ = dsem 0 ⟨j, hj⟩) (h₂ : q₂ = dsem 1 (Fin.rev ⟨j, hj⟩)) {i₁ s₁ i₂ s₂} {hsc} {hsrc} {hdst} {hsem}
    {α : Type} {Q : α → sProp 𝕄} {k : PUnit → Prog (TpuEff nD τ sig (Elt F) Λ₀ .tc) α} :
    rsSt m K c g j ⊢ iprop((rsSt m K c g (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.enqueueDma (oM.slice (Rect.unit (s := S1x256x640) (k0_off4 c w) S1x16x640.size i₁) s₁)
        (.remote (Dev.tc (⟨d, hd⟩ : Dev nD) : Thread nD τ) (rM.slice (Rect.unit (s := S16x16x640) (k0_off3 c) S1x16x640.size i₂) s₂) (.dma q₁) hsc)
        (.dma q₂) hsrc hdst hsem) k) Q) :=
  rs_send m K c g j hj hn h₁ h₂ (src_block c ⟨j, hj⟩ hw i₁ s₁) (dst_slot c i₂ s₂)

/-- Copy `j` of results. -/
theorem ag_at {d : ℕ} {hd : d < nD} (hn : d = (c.val + j + 1) % 16)
    {q₁ q₂ : DmaSem sig} (h₁ : q₁ = dsem 2 ⟨j, hj⟩) (h₂ : q₂ = dsem 3 (Fin.rev ⟨j, hj⟩)) {i₁ s₁ i₂ s₂} {hsc} {hsrc} {hdst} {hsem}
    {α : Type} {Q : α → sProp 𝕄} {k : PUnit → Prog (TpuEff nD τ sig (Elt F) Λ₀ .tc) α} :
    agSt m K c j ⊢ iprop((agSt m K c (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.enqueueDma (aM.slice (Rect.unit (s := S256x512) (k0_off7 c) S16x512.size i₁) s₁)
        (.remote (Dev.tc (⟨d, hd⟩ : Dev nD) : Thread nD τ) (aM.slice (Rect.unit (s := S256x512) (k0_off7 c) S16x512.size i₂) s₂) (.dma q₁) hsc)
        (.dma q₂) hsrc hdst hsem) k) Q) :=
  ag_send m K c j hj hn h₁ h₂ (own_rows c i₁ s₁) (own_rows c i₂ s₂)

/-- Wait `j` for partial sums: taken from the last entry of the array to the first. -/
theorem rsw_at {q : DmaSem sig} (hq : q = dsem 1 (Fin.rev ⟨j, hj⟩)) {src : Memref sig .tc .vmem S1x16x640 .bf16} {off i s} {hsrc} {hdst}
    {α : Type} {Q : α → sProp 𝕄} {k : PUnit → Prog (TpuEff nD τ sig (Elt F) Λ₀ .tc) α} :
    waitSt m K c 1 Fin.rev (oAg c 0) j ⊢ iprop((waitSt m K c 1 Fin.rev (oAg c 0) (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.waitDma2 q src (rM.slice (Rect.unit (s := S16x16x640) off S1x16x640.size i) s) hsrc hdst) k) Q) :=
  wait_step m K c 1 Fin.rev (oAg c 0) (mayWait_rs c) j hj hq (credit_slot off i s)

/-- Wait `j` for results. -/
theorem agw_at {q : DmaSem sig} (hq : q = dsem 3 (Fin.rev ⟨j, hj⟩)) {src : Memref sig .tc .vmem S16x512 .bf16} {off i s} {hsrc} {hdst}
    {α : Type} {Q : α → sProp 𝕄} {k : PUnit → Prog (TpuEff nD τ sig (Elt F) Λ₀ .tc) α} :
    waitSt m K c 3 Fin.rev 0 j ⊢ iprop((waitSt m K c 3 Fin.rev 0 (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.waitDma2 q src (aM.slice (Rect.unit (s := S256x512) off S16x512.size i) s) hsrc hdst) k) Q) :=
  wait_step m K c 3 Fin.rev 0 (fun _ => mayWait_none c _) j hj hq (credit_rows off 3 (by decide) i s)

/-- Wait `j` for the device's own copy `j` of partial sums. -/
theorem rsd_at {q : DmaSem sig} (hq : q = dsem 0 ⟨j, hj⟩) {src : Memref sig .tc .vmem S1x16x640 .bf16} {off i s} {hsrc} {hdst}
    {α : Type} {Q : α → sProp 𝕄} {k : PUnit → Prog (TpuEff nD τ sig (Elt F) Λ₀ .tc) α} :
    waitSt m K c 0 id 0 j ⊢ iprop((waitSt m K c 0 id 0 (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.waitDma2 q src (oM.slice (Rect.unit (s := S1x256x640) off S1x16x640.size i) s) hsrc hdst) k) Q) :=
  wait_step m K c 0 id 0 (fun _ => mayWait_none c _) j hj hq (credit_block off i s)

/-- Wait `j` for the device's own copy `j` of results. -/
theorem agd_at {q : DmaSem sig} (hq : q = dsem 2 ⟨j, hj⟩) {src : Memref sig .tc .vmem S16x512 .bf16} {off i s} {hsrc} {hdst}
    {α : Type} {Q : α → sProp 𝕄} {k : PUnit → Prog (TpuEff nD τ sig (Elt F) Λ₀ .tc) α} :
    waitSt m K c 2 id 0 j ⊢ iprop((waitSt m K c 2 id 0 (j + 1) -∗ wp frame (wpE (defs₀ (F := F)) 𝒱₀ (c : Thread nD τ) none) Set.univ (k ⟨⟩) Q) -∗ wp frame (wpE (defs₀ (F := F)) 𝒱₀ (c : Thread nD τ) none) Set.univ
      (.op (.waitDma2 q src (aM.slice (Rect.unit (s := S256x512) off S16x512.size i) s) hsrc hdst) k) Q) :=
  wait_step m K c 2 id 0 (fun _ => mayWait_none c _) j hj hq (credit_rows off 2 (by decide) i s)

end At

end Cert.K

end
-- ==== Proof.Parts1.lean ====
/-
The kernel's signals and its local attention: the pieces of the body before the barrier wait, each from the state it starts in to the state it
leaves.
-/
module

public import proofs.«01_k».proof.Proof.Steps
public import Idealize.ShloMosaic.Lib.Pipeline.Value

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

abbrev hX : (xM).IsWhole := Memref.isWhole_whole _
abbrev hQ : (qM).IsWhole := Memref.isWhole_whole _
abbrev hW : (woM).IsWhole := Memref.isWhole_whole _
abbrev hK : (kM).IsWhole := Memref.isWhole_whole _
abbrev hV : (vM).IsWhole := Memref.isWhole_whole _
abbrev hOut : (outM).IsWhole := Memref.isWhole_whole _
abbrev hO : (oM).IsWhole := Memref.isWhole_whole _
abbrev hR : (rM).IsWhole := Memref.isWhole_whole _
abbrev hA : (aM).IsWhole := Memref.isWhole_whole _

/-- Device `c` holds buffer `b` whole, at contents `f`. -/
abbrev wPts (b : Ref sig .tc) (f : Buf (Elt F) ((c : Thread nD τ).loc b)) : sProp 𝕄 := ((c : Thread nD τ).loc b) ↦{fullShare} f

/-- The first five signals. -/
theorem part1_run {Q : _ → sProp 𝕄} :
    sigSt m K c 0 ⊢ iprop((∀ v2 v24 w, sigSt m K c 5 -∗ Q ⟨c, v2, SemArray.scalar (sig.barrier 0 rfl), v24, w⟩)
      -∗ wp frame (wpE (defs₀ (F := F)) 𝒱₀ (c : Thread nD τ) none) Set.univ
        (k0_part1 xM hX qM hQ woM hW kM hK vM hV outM hOut oM hO rM hR aM hA cc0_scratch3 cc0_scratch4 cc0_scratch5 cc0_scratch6) Q) := by
  rw [k0_part1_eq_skeleton]; unfold k0_part1_skel
  simp only [semSignalWord, Prog.lift, Prog.bind_op, Prog.bind_ret, Prog.pure_eq_ret, wp_deviceId]
  iintro HS Hk
  iapply (sig_step m K c 0 (by decide) (k0_dev1_eq c) rfl rfl) $$ HS; iintro HS
  iapply (sig_step m K c 1 (by decide) (k0_dev2_eq c) rfl rfl) $$ HS; iintro HS
  iapply (sig_step m K c 2 (by decide) (k0_dev3_eq c) rfl rfl) $$ HS; iintro HS
  iapply (sig_step m K c 3 (by decide) (k0_dev4_eq c) rfl rfl) $$ HS; iintro HS
  iapply (sig_step m K c 4 (by decide) (k0_dev5_eq c) rfl rfl) $$ HS; iintro HS
  rw [wp_ret]; imodintro
  iapply Hk $$ HS

/-- Six signals more. -/
theorem part2_run (v2 v24 w : BitVec 32) {Q : _ → sProp 𝕄} :
    sigSt m K c 5 ⊢ iprop((∀ v, sigSt m K c 11 -∗ Q v)
      -∗ wp frame (wpE (defs₀ (F := F)) 𝒱₀ (c : Thread nD τ) none) Set.univ
        (k0_part2 xM hX qM hQ woM hW kM hK vM hV outM hOut oM hO rM hR aM hA cc0_scratch3 cc0_scratch4 cc0_scratch5 cc0_scratch6 c v2 (SemArray.scalar (sig.barrier 0 rfl)) v24 w) Q) := by
  rw [k0_part2_eq_skeleton]; unfold k0_part2_skel
  simp only [semSignalWord, Prog.lift, Prog.bind_op, Prog.bind_ret, Prog.pure_eq_ret]
  iintro HS Hk
  iapply (sig_step m K c 5 (by decide) (k0_dev6_eq c) rfl rfl) $$ HS; iintro HS
  iapply (sig_step m K c 6 (by decide) (k0_dev7_eq c) rfl rfl) $$ HS; iintro HS
  iapply (sig_step m K c 7 (by decide) (k0_dev8_eq c) rfl rfl) $$ HS; iintro HS
  iapply (sig_step m K c 8 (by decide) (k0_dev9_eq c) rfl rfl) $$ HS; iintro HS
  iapply (sig_step m K c 9 (by decide) (k0_dev10_eq c) rfl rfl) $$ HS; iintro HS
  iapply (sig_step m K c 10 (by decide) (k0_dev11_eq c) rfl rfl) $$ HS; iintro HS
  rw [wp_ret]; imodintro
  iapply Hk $$ HS

/-- The last four signals; the weights and the first batch of `x` are read. -/
theorem part3_run (v2 v48 w : BitVec 32) {Q : _ → sProp 𝕄} :
    iprop(sigSt m K c 11 ∗ wPts c cc0_stg0_0 (xC m c) ∗ wPts c cc0_stg1_0 (qC m c) ∗ wPts c cc0_stg2_0 (woC m c))
      ⊢ iprop(((sigSt m K c 15 ∗ wPts c cc0_stg0_0 (xC m c) ∗ wPts c cc0_stg1_0 (qC m c) ∗ wPts c cc0_stg2_0 (woC m c))
          -∗ Q ⟨k0_pay1 (ldQ m c), k0_pay2 (ldWo m c), k0_pay3 (ldQ m c) (ldX0 m c), q00 m c⟩)
      -∗ wp frame (wpE (defs₀ (F := F)) 𝒱₀ (c : Thread nD τ) none) Set.univ
        (k0_part3 xM hX qM hQ woM hW kM hK vM hV outM hOut oM hO rM hR aM hA cc0_scratch3 cc0_scratch4 cc0_scratch5 cc0_scratch6 c v2 (SemArray.scalar (sig.barrier 0 rfl)) v48 w) Q) := by
  rw [k0_part3_eq_skeleton]; unfold k0_part3_skel
  simp only [semSignalWord, Prog.lift, Prog.bind_op, Prog.bind_ret, Prog.pure_eq_ret]
  iintro ⟨HS, Hx, Hq, Hw⟩ Hk
  iapply (sig_step m K c 11 (by decide) (k0_dev12_eq c) rfl rfl) $$ HS; iintro HS
  iapply (sig_step m K c 12 (by decide) (k0_dev13_eq c) rfl rfl) $$ HS; iintro HS
  iapply (sig_step m K c 13 (by decide) (k0_dev14_eq c) rfl rfl) $$ HS; iintro HS
  iapply (sig_step m K c 14 (by decide) (k0_dev15_eq c) rfl rfl) $$ HS; iintro HS
  iapply (wp_load 𝒱₀ (c : Thread nD τ) none Set.univ (m := qM) (Finset.subset_univ _)) $$ Hq; iintro Hq
  iapply (wp_load 𝒱₀ (c : Thread nD τ) none Set.univ (m := woM) (Finset.subset_univ _)) $$ Hw; iintro Hw
  iapply (wp_load 𝒱₀ (c : Thread nD τ) none Set.univ (m := xM) (Finset.subset_univ _)) $$ Hx; iintro Hx
  rw [wp_ret]; imodintro
  iapply Hk
  isplitl [HS]; · iexact HS
  isplitl [Hx]; · iexact Hx
  isplitl [Hq]; · iexact Hq
  iexact Hw

/-- Batch 0, heads 0–3: the first two stores of partial sums. -/
theorem part4_run (g : OBuf F) {Q : _ → sProp 𝕄} :
    iprop(wPts c cc0_stg3_0 (kC m c) ∗ wPts c cc0_stg4_0 (vC m c) ∗ wPts c cc0_scratch0 g)
      ⊢ iprop(((wPts c cc0_stg3_0 (kC m c) ∗ wPts c cc0_stg4_0 (vC m c) ∗ wPts c cc0_scratch0 (w2 m c (w1 m c g))) -∗ Q ⟨q01 m c, ldK01 m c⟩)
      -∗ wp frame (wpE (defs₀ (F := F)) 𝒱₀ (c : Thread nD τ) none) Set.univ
        (k0_part4 xM hX qM hQ woM hW kM hK vM hV outM hOut oM hO rM hR aM hA cc0_scratch3 cc0_scratch4 cc0_scratch5 cc0_scratch6 (k0_pay3 (ldQ m c) (ldX0 m c)) (q00 m c)) Q) := by
  rw [k0_part4_eq_skeleton]; unfold k0_part4_skel
  simp only [semSignalWord, Prog.lift, Prog.bind_op, Prog.bind_ret, Prog.pure_eq_ret]
  iintro ⟨Hkk, Hv, Ho⟩ Hk
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := kM) (Finset.subset_univ _)) $$ Hkk; iintro Hkk
  rw [wp_ret]; imodintro
  iapply Hk
  isplitl [Hkk]; · iexact Hkk
  isplitl [Hv]; · iexact Hv
  iexact Ho

/-- Batch 0, heads 4–7; the second batch of `x` is read. -/
theorem part5_run (g : OBuf F) {Q : _ → sProp 𝕄} :
    iprop(wPts c cc0_stg0_0 (xC m c) ∗ wPts c cc0_stg4_0 (vC m c) ∗ wPts c cc0_scratch0 g)
      ⊢ iprop(((wPts c cc0_stg0_0 (xC m c) ∗ wPts c cc0_stg4_0 (vC m c) ∗ wPts c cc0_scratch0 (w4 m c (w3 m c g)))
          -∗ Q ⟨k0_pay12 (k0_pay1 (ldQ m c)) (ldX1 m c), q10 m c⟩)
      -∗ wp frame (wpE (defs₀ (F := F)) 𝒱₀ (c : Thread nD τ) none) Set.univ
        (k0_part5 xM hX qM hQ woM hW kM hK vM hV outM hOut oM hO rM hR aM hA cc0_scratch3 cc0_scratch4 cc0_scratch5 cc0_scratch6 (k0_pay1 (ldQ m c)) (q01 m c) (ldK01 m c)) Q) := by
  rw [k0_part5_eq_skeleton]; unfold k0_part5_skel
  simp only [semSignalWord, Prog.lift, Prog.bind_op, Prog.bind_ret, Prog.pure_eq_ret]
  iintro ⟨Hx, Hv, Ho⟩ Hk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := xM) (Finset.subset_univ _)) $$ Hx; iintro Hx
  rw [wp_ret]; imodintro
  iapply Hk
  isplitl [Hx]; · iexact Hx
  isplitl [Hv]; · iexact Hv
  iexact Ho

/-- Batch 1, heads 0–3. -/
theorem part6_run (g : OBuf F) {Q : _ → sProp 𝕄} :
    iprop(wPts c cc0_stg3_0 (kC m c) ∗ wPts c cc0_stg4_0 (vC m c) ∗ wPts c cc0_scratch0 g)
      ⊢ iprop(((wPts c cc0_stg3_0 (kC m c) ∗ wPts c cc0_stg4_0 (vC m c) ∗ wPts c cc0_scratch0 (w6 m c (w5 m c g))) -∗ Q (q11 m c))
      -∗ wp frame (wpE (defs₀ (F := F)) 𝒱₀ (c : Thread nD τ) none) Set.univ
        (k0_part6 xM hX qM hQ woM hW kM hK vM hV outM hOut oM hO rM hR aM hA cc0_scratch3 cc0_scratch4 cc0_scratch5 cc0_scratch6 (k0_pay12 (k0_pay1 (ldQ m c)) (ldX1 m c)) (q10 m c)) Q) := by
  rw [k0_part6_eq_skeleton]; unfold k0_part6_skel
  simp only [semSignalWord, Prog.lift, Prog.bind_op, Prog.bind_ret, Prog.pure_eq_ret]
  iintro ⟨Hkk, Hv, Ho⟩ Hk
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  rw [wp_ret]; imodintro
  iapply Hk
  isplitl [Hkk]; · iexact Hkk
  isplitl [Hv]; · iexact Hv
  iexact Ho

/-- The device's own rows of its partial sums, put into its own slot. -/
theorem own_slot (g : OBuf F) (fd : (cc0_scratch1 : Ref sig .tc).ty.Contents (Elt F)) (i : S16x16x640.Idx) (hs : i ∈ (rS c).view.set)
    (hi : (i 2).val < 520) :
    (rM.access (Rect.unit (s := S16x16x640) (k0_off2 c) S1x16x640.size (k0_off2_inb c))).write (Elt F) fd
      (k0_pay21 (oM.view.readAt (Elt F) (Rect.unit (s := S1x256x640) (k0_off1 c) S1x16x640.size (k0_off1_inb c)).toLoadRect (obufC m c g)))
      Finset.univ i = recvC m c i := by
  have key : ∀ (o1 : Fin 3 → ℕ) (o2 : Fin 3 → ℕ) (h1 : o1 = ![0, 16 * c.val, 0]) (h2 : o2 = ![c.val, 0, 0]) (i1) (i2),
      (rM.access (Rect.unit (s := S16x16x640) o2 S1x16x640.size i2)).write (Elt F) fd
        (k0_pay21 (oM.view.readAt (Elt F) (Rect.unit (s := S1x256x640) o1 S1x16x640.size i1).toLoadRect (obufC m c g))) Finset.univ i
        = recvC m c i := by
    rintro _ _ rfl rfl i1 i2
    rw [show k0_pay21 (oM.view.readAt (Elt F) (Rect.unit (s := S1x256x640) ![0, 16 * c.val, 0] S1x16x640.size i1).toLoadRect (obufC m c g))
      = oM.view.readAt (Elt F) (Rect.unit (s := S1x256x640) ![0, 16 * c.val, 0] S1x16x640.size i1).toLoadRect (obufC m c g)
      from shapeCast_self _ _, View.readAt_rect]
    exact slot_write m c c g fd i hs hi
  exact key _ _ (k0_off1_eq c) (k0_off2_eq c) _ _

/-- The own slot's elements. -/
theorem own_slot_set : (rM.access (Rect.unit (s := S16x16x640) (k0_off2 c) S1x16x640.size (k0_off2_inb c))).set = (rS c).view.set := by
  have key : ∀ (o : Fin 3 → ℕ) (h : o = ![c.val, 0, 0]) (i),
      (rM.access (Rect.unit (s := S16x16x640) o S1x16x640.size i)).set = (rS c).view.set := by
    rintro _ rfl i; rfl
  exact key _ (k0_off2_eq c) _

/-- Batch 1, heads 4–7, the last two stores; then the own slot. -/
theorem part7_run (g : OBuf F) (fd : (cc0_scratch1 : Ref sig .tc).ty.Contents (Elt F)) (v2 : BitVec 32) {Q : _ → sProp 𝕄} :
    iprop(wPts c cc0_stg3_0 (kC m c) ∗ wPts c cc0_stg4_0 (vC m c) ∗ wPts c cc0_scratch0 (w6 m c (w5 m c (w4 m c (w3 m c (w2 m c (w1 m c g)))))) ∗ rPts c c fd)
      ⊢ iprop(((wPts c cc0_stg3_0 (kC m c) ∗ wPts c cc0_stg4_0 (vC m c) ∗ wPts c cc0_scratch0 (obufC m c g) ∗ rGot m c c) -∗ Q ⟨⟩)
      -∗ wp frame (wpE (defs₀ (F := F)) 𝒱₀ (c : Thread nD τ) none) Set.univ
        (k0_part7 xM hX qM hQ woM hW kM hK vM hV outM hOut oM hO rM hR aM hA cc0_scratch3 cc0_scratch4 cc0_scratch5 cc0_scratch6 c v2 (q11 m c)) Q) := by
  rw [k0_part7_eq_skeleton]; unfold k0_part7_skel
  simp only [semSignalWord, Prog.lift, Prog.bind_op, Prog.bind_ret, Prog.pure_eq_ret]
  iintro ⟨Hkk, Hv, Ho, Hr⟩ Hk
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := oM) (Finset.subset_univ _)) $$ Ho; iintro Ho
  iapply (wp_store 𝒱₀ (c : Thread nD τ) none Set.univ (m := oM) (Mk := Finset.univ) (Finset.subset_univ _)) $$ [Ho]
  · iexact Ho
  iintro Ho
  iapply (wp_load 𝒱₀ (c : Thread nD τ) none Set.univ (m := oM) (Finset.subset_univ _)) $$ Ho; iintro Ho
  unfold rPts
  iapply (wp_load 𝒱₀ (c : Thread nD τ) none Set.univ (m := rM) (S := (rS c).view.set) (by
    refine Finset.Subset.trans ?_ (own_slot_set c).subset; exact (View.set_slice _ _).symm.subset)) $$ Hr; iintro Hr
  iapply (wp_store 𝒱₀ (c : Thread nD τ) none Set.univ (m := rM)
    (r := Rect.unit (s := S16x16x640) (k0_off2 c) S1x16x640.size (k0_off2_inb c)) (Mk := Finset.univ) (S := (rS c).view.set) (own_slot_set c).subset) $$ [Hr]
  · iexact Hr
  iintro Hr
  rw [wp_ret]; imodintro
  iapply Hk
  isplitl [Hkk]; · iexact Hkk
  isplitl [Hv]; · iexact Hv
  isplitl [Ho]; · iexact Ho
  unfold rGot rPts
  iexists _; isplitr
  · ipureintro; exact fun i hi hl => own_slot m c g fd i hi hl
  iexact Hr

end Cert.K

end
-- ==== Proof.Parts2.lean ====
/-
The barrier wait, the copies of partial sums and the waits for them.
-/
module

public import proofs.«01_k».proof.Proof.Parts1

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- What the credits and positions of array `k` are before its first wait. -/
def waitToks (k : Fin 4) : sProp 𝕄 :=
  bigSep Finset.univ fun r => iprop(cred (tallyAt (dcell c k r) () (amt k)) ∗ atPos ER (dcell c k r) 0 ∅ 0)

/-- Credits and positions, taken in the order `σ`, start a row of waits. -/
theorem waitSt_start (k : Fin 4) (σ : Fin 15 ≃ Fin 15) (ρ : Fin 15 → Fin 15) (hρ : ⇑σ = ρ) (O : GSem nD τ sig → Unit →₀ ℕ) :
    iprop(records m K ∗ levAts L lv ∗ waitToks (F := F) c k ∗ owesS c O) ⊢ waitSt m K c k ρ O 0 := by
  subst hρ
  unfold waitSt waitToks
  rw [fromN_zero, uptoN_zero, bigSep_empty,
    bigSep_univ_equiv σ (Φ := fun r => iprop(cred (tallyAt (dcell c k r) () (amt k)) ∗ atPos ER (dcell c k r) 0 ∅ 0))]
  iintro ⟨#HR, #Hl, H, HO⟩
  isplitr
  · isplitr; · iexact HR
    iexact Hl
  isplitl [H]; · iexact H
  isplitr; · iempintro
  iexact HO

/-- After the last wait: every entry's payload, and its position one round on. -/
theorem waitSt_end (k : Fin 4) (σ : Fin 15 ≃ Fin 15) (ρ : Fin 15 → Fin 15) (hρ : ⇑σ = ρ) (O : GSem nD τ sig → Unit →₀ ℕ) :
    waitSt m K c k ρ O 15 ⊢ iprop((bigSep Finset.univ fun r => pay m c k r) ∗ (bigSep Finset.univ fun r => atPos ER (dcell c k r) 1 ∅ 0) ∗ owesS c O) := by
  subst hρ
  unfold waitSt
  rw [fromN_last, uptoN_last, bigSep_empty,
    ← bigSep_univ_equiv σ (Φ := fun r => iprop(pay m c k r ∗ atPos ER (dcell c k r) 1 ∅ 0)), bigSep_sep']
  iintro ⟨-, -, ⟨Hp, Ha⟩, HO⟩
  isplitl [Hp]; · iexact Hp
  isplitl [Ha]; · iexact Ha
  iexact HO

/-- The row blocks and tokens with which a device enters the barrier wait. -/
def sendToks (g : OBuf F) : sProp 𝕄 :=
  bigSep Finset.univ fun r => iprop(oPts c (nx c r) (obufC m c g) ∗ dutyTok ER (dcell c 0 r) 0 0 ∗ dutyTok ER (dcell (nx c r) 1 (Fin.rev r)) 0 0)

/-- What the barrier hands over completes the row blocks to a state from which every copy can be made. -/
theorem rsSt_start (g : OBuf F) :
    iprop(records m K ∗ sendToks m c g ∗ (bigSep Finset.univ fun j => barPay (F := F) c j) ∗ owesS c (oAg c 0 + oRs c 0))
      ⊢ iprop(rsSt m K c g 0 ∗ bigSep Finset.univ fun r => iprop(∃ f, aPts (F := F) (nx c r) c fullShare f)) := by
  unfold rsSt sendToks barPay
  rw [fromN_zero, uptoN_zero, bigSep_empty]
  simp only [bigSep_sep']
  iintro ⟨#HR, ⟨Ho, H1, H2⟩, ⟨Hr, Ha⟩, HO⟩
  isplitr [Ha]
  · isplitr; · iexact HR
    isplitr [HO]
    · isplitl [Ho]; · iexact Ho
      isplitl [Hr]; · iexact Hr
      isplitl [H1]; · iexact H1
      iexact H2
    isplitr; · iempintro
    iexact HO
  iexact Ha

/-- The barrier wait and the first two copies of partial sums. -/
theorem part8_run (g : OBuf F) (v2 : BitVec 32) {Q : _ → sProp 𝕄} :
    iprop(records m K ∗ levAts L lv ∗ cred (tallyAt (barCell c) () 15) ∗ atPos ER (barCell c) 0 ∅ 0 ∗ owesS c (oAg c 0 + oRs c 0) ∗ sendToks m c g)
      ⊢ iprop((∀ v, (rsSt m K c g 2 ∗ atPos ER (barCell c) 1 ∅ 0 ∗ bigSep Finset.univ fun r => iprop(∃ f, aPts (F := F) (nx c r) c fullShare f)) -∗ Q v)
      -∗ wp frame (wpE (defs₀ (F := F)) 𝒱₀ (c : Thread nD τ) none) Set.univ
        (k0_part8 xM hX qM hQ woM hW kM hK vM hV outM hOut oM hO rM hR aM hA cc0_scratch3 cc0_scratch4 cc0_scratch5 cc0_scratch6 c v2 (SemArray.scalar (sig.barrier 0 rfl))) Q) := by
  rw [k0_part8_eq_skeleton]; unfold k0_part8_skel
  simp only [semWaitWord, Prog.lift, Prog.bind_op, Prog.bind_ret, Prog.pure_eq_ret]
  iintro ⟨#HR, #Hlev, Hc, Hb, HO, Ht⟩ Hk
  iapply (bar_step m K c rfl rfl) $$ [Hc Hb HO]
  · isplitr; · iexact HR
    isplitr; · iexact Hlev
    isplitl [Hc]; · iexact Hc
    isplitl [Hb]; · iexact Hb
    iexact HO
  iintro ⟨HO, Hb, Hp⟩
  ihave HS := (rsSt_start m K c g) $$ [Ht Hp HO]
  · isplitr; · iexact HR
    isplitl [Ht]; · iexact Ht
    isplitl [Hp]; · iexact Hp
    iexact HO
  icases HS with ⟨HS, Ha⟩
  iapply (rs_at m K c 0 (by decide) g (k0_dev16_eq c) rfl rfl rfl) $$ HS; iintro HS
  iapply (rs_at m K c 1 (by decide) g (k0_dev17_eq c) rfl rfl rfl) $$ HS; iintro HS
  rw [wp_ret]; imodintro
  iapply Hk
  isplitl [HS]; · iexact HS
  isplitl [Hb]; · iexact Hb
  iexact Ha

/-- Copies 2 and 3 of partial sums. -/
theorem part9_run (g : OBuf F) (v2 v255 w : BitVec 32) {Q : _ → sProp 𝕄} :
    rsSt m K c g 2
      ⊢ iprop((∀ v, rsSt m K c g 4 -∗ Q v)
      -∗ wp frame (wpE (defs₀ (F := F)) 𝒱₀ (c : Thread nD τ) none) Set.univ
        (k0_part9 xM hX qM hQ woM hW kM hK vM hV outM hOut oM hO rM hR aM hA cc0_scratch3 cc0_scratch4 cc0_scratch5 cc0_scratch6 c v2 v255 w) Q) := by
  rw [k0_part9_eq_skeleton]; unfold k0_part9_skel
  simp only [semWaitWord, Prog.lift, Prog.bind_op, Prog.bind_ret, Prog.pure_eq_ret]
  iintro HS Hk
  iapply (rs_at m K c 2 (by decide) g (k0_dev18_eq c) rfl rfl rfl) $$ HS; iintro HS
  iapply (rs_at m K c 3 (by decide) g (k0_dev19_eq c) rfl rfl rfl) $$ HS; iintro HS
  rw [wp_ret]; imodintro
  iapply Hk $$ HS

/-- Copies 4 and 5 of partial sums. -/
theorem part10_run (g : OBuf F) (v2 w : BitVec 32) {Q : _ → sProp 𝕄} :
    rsSt m K c g 4
      ⊢ iprop((∀ v, rsSt m K c g 6 -∗ Q v)
      -∗ wp frame (wpE (defs₀ (F := F)) 𝒱₀ (c : Thread nD τ) none) Set.univ
        (k0_part10 xM hX qM hQ woM hW kM hK vM hV outM hOut oM hO rM hR aM hA cc0_scratch3 cc0_scratch4 cc0_scratch5 cc0_scratch6 c v2 w) Q) := by
  rw [k0_part10_eq_skeleton]; unfold k0_part10_skel
  simp only [semWaitWord, Prog.lift, Prog.bind_op, Prog.bind_ret, Prog.pure_eq_ret]
  iintro HS Hk
  iapply (rs_at m K c 4 (by decide) g (k0_dev20_eq c) rfl rfl rfl) $$ HS; iintro HS
  iapply (rs_at m K c 5 (by decide) g (k0_dev21_eq c) rfl rfl rfl) $$ HS; iintro HS
  rw [wp_ret]; imodintro
  iapply Hk $$ HS

/-- Copies 6 and 7 of partial sums. -/
theorem part11_run (g : OBuf F) (v2 v313 w : BitVec 32) {Q : _ → sProp 𝕄} :
    rsSt m K c g 6
      ⊢ iprop((∀ v, rsSt m K c g 8 -∗ Q v)
      -∗ wp frame (wpE (defs₀ (F := F)) 𝒱₀ (c : Thread nD τ) none) Set.univ
        (k0_part11 xM hX qM hQ woM hW kM hK vM hV outM hOut oM hO rM hR aM hA cc0_scratch3 cc0_scratch4 cc0_scratch5 cc0_scratch6 c v2 v313 w) Q) := by
  rw [k0_part11_eq_skeleton]; unfold k0_part11_skel
  simp only [semWaitWord, Prog.lift, Prog.bind_op, Prog.bind_ret, Prog.pure_eq_ret]
  iintro HS Hk
  iapply (rs_at m K c 6 (by decide) g (k0_dev22_eq c) rfl rfl rfl) $$ HS; iintro HS
  iapply (rs_at m K c 7 (by decide) g (k0_dev23_eq c) rfl rfl rfl) $$ HS; iintro HS
  rw [wp_ret]; imodintro
  iapply Hk $$ HS

/-- Copies 8 and 9 of partial sums. -/
theorem part12_run (g : OBuf F) (v2 v342 w : BitVec 32) {Q : _ → sProp 𝕄} :
    rsSt m K c g 8
      ⊢ iprop((∀ v, rsSt m K c g 10 -∗ Q v)
      -∗ wp frame (wpE (defs₀ (F := F)) 𝒱₀ (c : Thread nD τ) none) Set.univ
        (k0_part12 xM hX qM hQ woM hW kM hK vM hV outM hOut oM hO rM hR aM hA cc0_scratch3 cc0_scratch4 cc0_scratch5 cc0_scratch6 c v2 v342 w) Q) := by
  rw [k0_part12_eq_skeleton]; unfold k0_part12_skel
  simp only [semWaitWord, Prog.lift, Prog.bind_op, Prog.bind_ret, Prog.pure_eq_ret]
  iintro HS Hk
  iapply (rs_at m K c 8 (by decide) g (k0_dev24_eq c) rfl rfl rfl) $$ HS; iintro HS
  iapply (rs_at m K c 9 (by decide) g (k0_dev25_eq c) rfl rfl rfl) $$ HS; iintro HS
  rw [wp_ret]; imodintro
  iapply Hk $$ HS

/-- Copies 10 and 11 of partial sums. -/
theorem part13_run (g : OBuf F) (v2 v370 : BitVec 32) {Q : _ → sProp 𝕄} :
    rsSt m K c g 10
      ⊢ iprop((∀ v, rsSt m K c g 12 -∗ Q v)
      -∗ wp frame (wpE (defs₀ (F := F)) 𝒱₀ (c : Thread nD τ) none) Set.univ
        (k0_part13 xM hX qM hQ woM hW kM hK vM hV outM hOut oM hO rM hR aM hA cc0_scratch3 cc0_scratch4 cc0_scratch5 cc0_scratch6 c v2 v370) Q) := by
  rw [k0_part13_eq_skeleton]; unfold k0_part13_skel
  simp only [semWaitWord, Prog.lift, Prog.bind_op, Prog.bind_ret, Prog.pure_eq_ret]
  iintro HS Hk
  iapply (rs_at m K c 10 (by decide) g (k0_dev26_eq c) rfl rfl rfl) $$ HS; iintro HS
  iapply (rs_at m K c 11 (by decide) g (k0_dev27_eq c) rfl rfl rfl) $$ HS; iintro HS
  rw [wp_ret]; imodintro
  iapply Hk $$ HS

/-- Copies 12 and 13 of partial sums. -/
theorem part14_run (g : OBuf F) (v2 v398 w : BitVec 32) {Q : _ → sProp 𝕄} :
    rsSt m K c g 12
      ⊢ iprop((∀ v, rsSt m K c g 14 -∗ Q v)
      -∗ wp frame (wpE (defs₀ (F := F)) 𝒱₀ (c : Thread nD τ) none) Set.univ
        (k0_part14 xM hX qM hQ woM hW kM hK vM hV outM hOut oM hO rM hR aM hA cc0_scratch3 cc0_scratch4 cc0_scratch5 cc0_scratch6 c v2 v398 w) Q) := by
  rw [k0_part14_eq_skeleton]; unfold k0_part14_skel
  simp only [semWaitWord, Prog.lift, Prog.bind_op, Prog.bind_ret, Prog.pure_eq_ret]
  iintro HS Hk
  iapply (rs_at m K c 12 (by decide) g (k0_dev28_eq c) rfl rfl rfl) $$ HS; iintro HS
  iapply (rs_at m K c 13 (by decide) g (k0_dev29_eq c) rfl rfl rfl) $$ HS; iintro HS
  rw [wp_ret]; imodintro
  iapply Hk $$ HS

/-- All copies of partial sums made: their credits are kept for later, and the waits for the other devices' partial sums can start. -/
theorem rsSt_end (g : OBuf F) :
    iprop(rsSt m K c g 15 ∗ levAts L lv ∗ waitToks (F := F) c 1)
      ⊢ iprop((bigSep Finset.univ fun r => cred (tallyAt (dcell c 0 r) () (amt 0))) ∗ waitSt m K c 1 Fin.rev (oAg c 0) 0) := by
  unfold rsSt
  rw [uptoN_last, fromN_last, oRs_last, add_zero]
  iintro ⟨⟨#HR, -, Hc, HO⟩, #Hl, Hw⟩
  isplitl [Hc]; · iexact Hc
  iapply (waitSt_start m K c 1 Fin.revPerm Fin.rev rfl (oAg c 0))
  isplitr; · iexact HR
  isplitr; · iexact Hl
  isplitl [Hw]; · iexact Hw
  iexact HO

/-- The last copy of partial sums and the first two waits. -/
theorem part15_run (g : OBuf F) (v2 v242 v256 v270 v428 w : BitVec 32) {Q : _ → sProp 𝕄} :
    iprop(rsSt m K c g 14 ∗ levAts L lv ∗ waitToks (F := F) c 1)
      ⊢ iprop((∀ v, ((bigSep Finset.univ fun r => cred (tallyAt (dcell c 0 r) () (amt 0))) ∗ waitSt m K c 1 Fin.rev (oAg c 0) 2) -∗ Q v)
      -∗ wp frame (wpE (defs₀ (F := F)) 𝒱₀ (c : Thread nD τ) none) Set.univ
        (k0_part15 xM hX qM hQ woM hW kM hK vM hV outM hOut oM hO rM hR aM hA cc0_scratch3 cc0_scratch4 cc0_scratch5 cc0_scratch6 c v2 v242 v256 v270 v428 w) Q) := by
  rw [k0_part15_eq_skeleton]; unfold k0_part15_skel
  simp only [semWaitWord, Prog.lift, Prog.bind_op, Prog.bind_ret, Prog.pure_eq_ret]
  iintro ⟨HS, #Hl, Hw⟩ Hk
  iapply (rs_at m K c 14 (by decide) g (k0_dev30_eq c) rfl rfl rfl) $$ HS; iintro HS
  ihave HS := (rsSt_end m K c g) $$ [HS Hw]
  · isplitl [HS]; · iexact HS
    isplitr; · iexact Hl
    iexact Hw
  icases HS with ⟨Hc, HS⟩
  iapply (rsw_at m K c 0 (by decide) rfl) $$ HS; iintro HS
  iapply (rsw_at m K c 1 (by decide) rfl) $$ HS; iintro HS
  rw [wp_ret]; imodintro
  iapply Hk
  isplitl [Hc]; · iexact Hc
  iexact HS

/-- Waits 2 to 5 for partial sums. -/
theorem part16_run (v284 v298 v312 v326 : BitVec 32) {Q : _ → sProp 𝕄} :
    waitSt m K c 1 Fin.rev (oAg c 0) 2
      ⊢ iprop((waitSt m K c 1 Fin.rev (oAg c 0) 6 -∗ Q ⟨⟩)
      -∗ wp frame (wpE (defs₀ (F := F)) 𝒱₀ (c : Thread nD τ) none) Set.univ
        (k0_part16 xM hX qM hQ woM hW kM hK vM hV outM hOut oM hO rM hR aM hA cc0_scratch3 cc0_scratch4 cc0_scratch5 cc0_scratch6 c v284 v298 v312 v326) Q) := by
  rw [k0_part16_eq_skeleton]; unfold k0_part16_skel
  simp only [semWaitWord, Prog.lift, Prog.bind_op, Prog.bind_ret, Prog.pure_eq_ret]
  iintro HS Hk
  iapply (rsw_at m K c 2 (by decide) rfl) $$ HS; iintro HS
  iapply (rsw_at m K c 3 (by decide) rfl) $$ HS; iintro HS
  iapply (rsw_at m K c 4 (by decide) rfl) $$ HS; iintro HS
  iapply (rsw_at m K c 5 (by decide) rfl) $$ HS; iintro HS
  rw [wp_ret]; imodintro
  iapply Hk $$ HS

/-- Waits 6 to 9 for partial sums. -/
theorem part17_run (v340 v354 v368 v382 : BitVec 32) {Q : _ → sProp 𝕄} :
    waitSt m K c 1 Fin.rev (oAg c 0) 6
      ⊢ iprop((waitSt m K c 1 Fin.rev (oAg c 0) 10 -∗ Q ⟨⟩)
      -∗ wp frame (wpE (defs₀ (F := F)) 𝒱₀ (c : Thread nD τ) none) Set.univ
        (k0_part17 xM hX qM hQ woM hW kM hK vM hV outM hOut oM hO rM hR aM hA cc0_scratch3 cc0_scratch4 cc0_scratch5 cc0_scratch6 c v340 v354 v368 v382) Q) := by
  rw [k0_part17_eq_skeleton]; unfold k0_part17_skel
  simp only [semWaitWord, Prog.lift, Prog.bind_op, Prog.bind_ret, Prog.pure_eq_ret]
  iintro HS Hk
  iapply (rsw_at m K c 6 (by decide) rfl) $$ HS; iintro HS
  iapply (rsw_at m K c 7 (by decide) rfl) $$ HS; iintro HS
  iapply (rsw_at m K c 8 (by decide) rfl) $$ HS; iintro HS
  iapply (rsw_at m K c 9 (by decide) rfl) $$ HS; iintro HS
  rw [wp_ret]; imodintro
  iapply Hk $$ HS

/-- Waits 10 to 13 for partial sums. -/
theorem part18_run (v396 v410 v424 v438 : BitVec 32) {Q : _ → sProp 𝕄} :
    waitSt m K c 1 Fin.rev (oAg c 0) 10
      ⊢ iprop((waitSt m K c 1 Fin.rev (oAg c 0) 14 -∗ Q ⟨⟩)
      -∗ wp frame (wpE (defs₀ (F := F)) 𝒱₀ (c : Thread nD τ) none) Set.univ
        (k0_part18 xM hX qM hQ woM hW kM hK vM hV outM hOut oM hO rM hR aM hA cc0_scratch3 cc0_scratch4 cc0_scratch5 cc0_scratch6 c v396 v410 v424 v438) Q) := by
  rw [k0_part18_eq_skeleton]; unfold k0_part18_skel
  simp only [semWaitWord, Prog.lift, Prog.bind_op, Prog.bind_ret, Prog.pure_eq_ret]
  iintro HS Hk
  iapply (rsw_at m K c 10 (by decide) rfl) $$ HS; iintro HS
  iapply (rsw_at m K c 11 (by decide) rfl) $$ HS; iintro HS
  iapply (rsw_at m K c 12 (by decide) rfl) $$ HS; iintro HS
  iapply (rsw_at m K c 13 (by decide) rfl) $$ HS; iintro HS
  rw [wp_ret]; imodintro
  iapply Hk $$ HS

end Cert.K

end
-- ==== Proof.Regions.lean ====
/-
A scratch buffer as the blocks the devices exchange: taken apart, put together again, and lent in shares.
-/
module

public import proofs.«01_k».proof.Proof.Parts1
public import Idealize.ShloMosaic.Lib.Ring

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The partial sums held whole are the row blocks for each device. -/
theorem blocks_split (f : OBuf F) :
    (wPts c cc0_scratch0 f : sProp 𝕄) = iprop(oPts c c f ∗ bigSep Finset.univ fun r => oPts c (nx c r) f) := by
  rw [← bigSep_dev c fun t => oPts c t f]
  unfold oPts
  refine Eq.trans ?_ (pointsTo_biUnion (ℓ := (c : Thread nD τ).loc cc0_scratch0) (q := fullShare) (f := f) Finset.univ (fun t : Dev nD => (oS t).view.set) (fun s _ t _ h => oS_disj s t h))
  rw [oS_cover]

/-- Row blocks at any contents make up the whole buffer. -/
theorem blocks_join (f : OBuf F) :
    iprop((∃ g, oPts (F := F) c c g) ∗ bigSep Finset.univ fun r => iprop(∃ g, oPts (F := F) c (nx c r) g))
      ⊢ (iprop(∃ g, wPts (F := F) c cc0_scratch0 g) : sProp 𝕄) := by
  haveI : Nonempty (OBuf F) := ⟨f⟩
  refine (Entails.of_eq (bigSep_dev c fun t => iprop(∃ g, oPts (F := F) c t g)).symm).trans ((bigSep_exists_pi Finset.univ _).trans ?_)
  iintro ⟨%fs, H⟩
  ihave H := (pointsTo_biUnion_join (q := fullShare) (ℓ := (c : Thread nD τ).loc cc0_scratch0) Finset.univ (fun t : Dev nD => (oS t).view.set)
    fs f (fun s _ t _ h => oS_disj s t h)) $$ [H]
  · iexact H
  icases H with ⟨%g, -, H⟩
  iexists g
  rw [oS_cover]; iexact H

/-- The receive buffer held whole is its slots. -/
theorem slots_split (f : (cc0_scratch1 : Ref sig .tc).ty.Contents (Elt F)) :
    (wPts c cc0_scratch1 f : sProp 𝕄) = iprop(rPts c c f ∗ bigSep Finset.univ fun r => rPts c (nx c r) f) := by
  rw [← bigSep_dev c fun t => rPts c t f]
  unfold rPts
  refine Eq.trans ?_ (pointsTo_biUnion (ℓ := (c : Thread nD τ).loc cc0_scratch1) (q := fullShare) (f := f) Finset.univ (fun t : Dev nD => (rS t).view.set) (fun s _ t _ h => rS_disj s t h))
  rw [rS_cover]

/-- The gathered rows held whole are the rows of each device. -/
theorem rows_split (q : PosShare TreeShare) (f : (cc0_scratch2 : Ref sig .tc).ty.Contents (Elt F)) :
    (((c : Thread nD τ).loc cc0_scratch2) ↦{q} f : sProp 𝕄) = iprop(aPts c c q f ∗ bigSep Finset.univ fun r => aPts c (nx c r) q f) := by
  rw [← bigSep_dev c fun t => aPts c t q f]
  unfold aPts
  refine Eq.trans ?_ (pointsTo_biUnion (ℓ := (c : Thread nD τ).loc cc0_scratch2) (q := q) (f := f) Finset.univ (fun t : Dev nD => (aS t).view.set) (fun s _ t _ h => aS_disj s t h))
  rw [aS_cover]

/-- All slots received: the buffer holds every device's partial sums of this device's rows, in the lanes below 520. -/
theorem slots_join :
    iprop(rGot m c c ∗ bigSep Finset.univ fun r => rGot m c (nx c r))
      ⊢ (iprop(∃ f, ⌜∀ i : S16x16x640.Idx, (i 2).val < 520 → f i = recvC m c i⌝ ∗ wPts c cc0_scratch1 f) : sProp 𝕄) := by
  have hsub : ∀ s : Dev nD, rGot (F := F) m c s ⊢ (iprop(∃ y : {f : (cc0_scratch1 : Ref sig .tc).ty.Contents (Elt F) //
      ∀ i : S16x16x640.Idx, i ∈ (rS s).view.set → (i 2).val < 520 → f i = recvC m c i}, rPts c s y.1) : sProp 𝕄) := fun s => by
    unfold rGot; iintro ⟨%f, %h, H⟩; iexists ⟨f, h⟩; iexact H
  haveI : ∀ s : Dev nD, Nonempty {f : (cc0_scratch1 : Ref sig .tc).ty.Contents (Elt F) //
      ∀ i : S16x16x640.Idx, i ∈ (rS s).view.set → (i 2).val < 520 → f i = recvC m c i} := fun s => ⟨⟨recvC m c, fun _ _ _ => rfl⟩⟩
  refine (Entails.of_eq (bigSep_dev c fun t => rGot (F := F) m c t).symm).trans ((bigSep_mono fun s _ => hsub s).trans
    ((bigSep_exists_pi Finset.univ _).trans ?_))
  iintro ⟨%fs, H⟩
  ihave H := (pointsTo_biUnion_join (q := fullShare) (ℓ := (c : Thread nD τ).loc cc0_scratch1) Finset.univ (fun t : Dev nD => (rS t).view.set)
    (fun t => (fs t).1) (recvC m c) (fun s _ t _ h => rS_disj s t h)) $$ [H]
  · iexact H
  icases H with ⟨%g, %hg, H⟩
  iexists g
  isplitr
  · ipureintro
    intro i hi
    have hc : i ∈ (Finset.univ.biUnion fun t : Dev nD => (rS t).view.set) := by rw [rS_cover]; exact Finset.mem_univ _
    obtain ⟨t, -, ht⟩ := Finset.mem_biUnion.mp hc
    exact (hg t (Finset.mem_univ t) i ht).trans ((fs t).2 i ht hi)
  rw [rS_cover]; iexact H

/-- The rows the device keeps a share of, when its fifteen copies have each taken one. -/
theorem own_lend (f : (cc0_scratch2 : Ref sig .tc).ty.Contents (Elt F)) :
    (aPts c c fullShare f : sProp 𝕄) ⊢ iprop(aPts c c (Transfers.shareDrop fullShare 15) f ∗ bigSep Finset.univ fun r : Fin 15 => aPts c c (Transfers.shareTok fullShare 15 r) f) :=
  Transfers.pointsTo_toks_split fullShare 15

theorem rows_lend (s : Dev nD) (f : (cc0_scratch2 : Ref sig .tc).ty.Contents (Elt F)) :
    (aPts c s fullShare f : sProp 𝕄) = iprop(aPts c s (Transfers.shareDrop fullShare 15) f ∗ bigSep Finset.univ fun r : Fin 15 => aPts c s (Transfers.shareTok fullShare 15 r) f) :=
  BI.equiv_iff.mp ⟨Transfers.pointsTo_toks_split fullShare 15, Transfers.pointsTo_toks_join fullShare 15⟩

/-- While the device's own rows are lent out, a share of all rows can be read. -/
theorem gath_lend :
    iprop(aPts c c (Transfers.shareDrop fullShare 15) (gathC m) ∗ bigSep Finset.univ fun r => aPts c (nx c r) fullShare (gathC m))
      ⊢ (iprop((((c : Thread nD τ).loc cc0_scratch2) ↦{Transfers.shareDrop fullShare 15} gathC m)
        ∗ bigSep Finset.univ fun r => bigSep Finset.univ fun i : Fin 15 => aPts c (nx c r) (Transfers.shareTok fullShare 15 i) (gathC m)) : sProp 𝕄) := by
  rw [rows_split, bigSep_congr (s := Finset.univ) (fun r _ => rows_lend c (nx c r) (gathC m)), bigSep_sep']
  iintro ⟨H, H1, H2⟩
  isplitr [H2]
  · isplitl [H]; · iexact H
    iexact H1
  iexact H2

/-- The lent shares come back: all rows held whole. -/
theorem gath_back :
    iprop((((c : Thread nD τ).loc cc0_scratch2) ↦{Transfers.shareDrop fullShare 15} gathC m)
        ∗ (bigSep Finset.univ fun r => bigSep Finset.univ fun i : Fin 15 => aPts c (nx c r) (Transfers.shareTok fullShare 15 i) (gathC m))
        ∗ bigSep Finset.univ fun i : Fin 15 => aPts c c (Transfers.shareTok fullShare 15 i) (gathC m))
      ⊢ (wPts c cc0_scratch2 (gathC m) : sProp 𝕄) := by
  unfold wPts
  rw [rows_split, rows_split, bigSep_congr (s := Finset.univ) (fun r _ => rows_lend c (nx c r) (gathC m)), bigSep_sep', rows_lend c c]
  iintro ⟨⟨H, H1⟩, H2, H3⟩
  isplitl [H H3]
  · isplitl [H]; · iexact H
    iexact H3
  isplitl [H1]; · iexact H1
  iexact H2

end Cert.K

end
-- ==== Proof.Parts3.lean ====
/-
The sums over the devices, the device's own result rows, and the copies of results.
-/
module

public import proofs.«01_k».proof.Proof.Parts2
public import proofs.«01_k».proof.Proof.Regions

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The last wait for partial sums; the slots are read. -/
theorem part19_run {Q : _ → sProp 𝕄} :
    iprop(waitSt m K c 1 Fin.rev (oAg c 0) 14 ∗ rGot m c c)
      ⊢ iprop((((bigSep Finset.univ fun r => atPos ER (dcell c 1 r) 1 ∅ 0) ∗ owesS c (oAg c 0) ∗ ∃ f, wPts (F := F) c cc0_scratch1 f) -∗ Q (k0_pay22 (recvO m c) (recvL m c)))
      -∗ wp frame (wpE (defs₀ (F := F)) 𝒱₀ (c : Thread nD τ) none) Set.univ
        (k0_part19 xM hX qM hQ woM hW kM hK vM hV outM hOut oM hO rM hR aM hA cc0_scratch3 cc0_scratch4 cc0_scratch5 cc0_scratch6 c) Q) := by
  rw [k0_part19_eq_skeleton]; unfold k0_part19_skel
  simp only [semWaitWord, Prog.lift, Prog.bind_op, Prog.bind_ret, Prog.pure_eq_ret]
  iintro ⟨HS, Hr⟩ Hk
  iapply (rsw_at m K c 14 (by decide) rfl) $$ HS; iintro HS
  ihave HS := (waitSt_end m K c 1 Fin.revPerm Fin.rev rfl (oAg c 0)) $$ HS
  icases HS with ⟨Hp, Ha, HO⟩
  ihave Hr := (slots_join m c) $$ [Hr Hp]
  · isplitl [Hr]; · iexact Hr
    iexact Hp
  icases Hr with ⟨%f, %hf, Hr⟩
  iapply (wp_load 𝒱₀ (c : Thread nD τ) none Set.univ (m := rM) (Finset.subset_univ _)) $$ Hr; iintro Hr
  iapply (wp_load 𝒱₀ (c : Thread nD τ) none Set.univ (m := rM) (Finset.subset_univ _)) $$ Hr; iintro Hr
  rw [recvO_eq m c f hf, recvL_eq m c f hf]
  rw [wp_ret]; imodintro
  iapply Hk
  isplitl [Ha]; · iexact Ha
  isplitl [HO]; · iexact HO
  iexists f; iexact Hr

/-- The own rows' elements. -/
theorem own_rows_set : (aM.access (Rect.unit (s := S256x512) (k0_off6 c) S16x512.size (k0_off6_inb c))).set = (aS c).view.set := by
  have key : ∀ (o : Fin 2 → ℕ) (h : o = ![16 * c.val, 0]) (i),
      (aM.access (Rect.unit (s := S256x512) o S16x512.size i)).set = (aS c).view.set := by
    rintro _ rfl i; rfl
  exact key _ (k0_off6_eq c) _

/-- The store of the device's result rows leaves what the gathered array holds there. -/
theorem own_rows_store (f : (cc0_scratch2 : Ref sig .tc).ty.Contents (Elt F)) (i : S256x512.Idx) (hi : i ∈ (aS c).view.set) :
    (aM.access (Rect.unit (s := S256x512) (k0_off6 c) S16x512.size (k0_off6_inb c))).write (Elt F) f (accC m c) Finset.univ i = gathC m i := by
  have key : ∀ (o : Fin 2 → ℕ) (h : o = ![16 * c.val, 0]) (inb),
      (aM.access (Rect.unit (s := S256x512) o S16x512.size inb)).write (Elt F) f (accC m c) Finset.univ i = gathC m i := by
    rintro _ rfl inb; exact gath_store m c f i hi
  exact key _ (k0_off6_eq c) _

/-- The own rows, held after that store. -/
theorem own_rows_done (f : (cc0_scratch2 : Ref sig .tc).ty.Contents (Elt F)) :
    ((aM.view.loc (c : Thread nD τ)) ↦[(aS c).view.set]{fullShare}
      ((aM.access (Rect.unit (s := S256x512) (k0_off6 c) S16x512.size (k0_off6_inb c))).write (Elt F) f
        (k0_pay23 (k0_pay2 (ldWo m c)) (k0_pay22 (recvO m c) (recvL m c))) Finset.univ) : sProp 𝕄) ⊢ aPts c c fullShare (gathC m) :=
  Entails.of_eq (pointsTo_congr (fun i hi => own_rows_store m c f i hi))

/-- The tokens of the copies of results. -/
def gathToks : sProp 𝕄 :=
  bigSep Finset.univ fun r => iprop(dutyTok ER (dcell c 2 r) 0 0 ∗ dutyTok ER (dcell (nx c r) 3 (Fin.rev r)) 0 0)

/-- With its own rows computed a device can make every copy of them; it keeps a share of its rows. -/
theorem agSt_start :
    iprop(records m K ∗ aPts c c fullShare (gathC m) ∗ (bigSep Finset.univ fun r => iprop(∃ f, aPts (F := F) (nx c r) c fullShare f))
        ∗ gathToks (F := F) c ∗ owesS c (oAg c 0))
      ⊢ iprop(agSt m K c 0 ∗ aPts c c (shareDrop fullShare 15) (gathC m)) := by
  unfold agSt gathToks
  rw [fromN_zero, uptoN_zero, bigSep_empty]
  simp only [bigSep_sep']
  iintro ⟨#HR, Ho, Ha, ⟨H1, H2⟩, HO⟩
  ihave Ho := (own_lend c (gathC m)) $$ Ho
  icases Ho with ⟨Hd, Ho⟩
  isplitr [Hd]
  · isplitr; · iexact HR
    isplitr [HO]
    · isplitl [Ho]; · iexact Ho
      isplitl [Ha]; · iexact Ha
      isplitl [H1]; · iexact H1
      iexact H2
    isplitr; · iempintro
    iexact HO
  iexact Hd

/-- The own result rows are stored, and their first two copies made. -/
theorem part20_run (v2 : BitVec 32) {Q : _ → sProp 𝕄} :
    iprop(records m K ∗ (∃ f, aPts (F := F) c c fullShare f) ∗ (bigSep Finset.univ fun r => iprop(∃ f, aPts (F := F) (nx c r) c fullShare f))
        ∗ gathToks (F := F) c ∗ owesS c (oAg c 0))
      ⊢ iprop((∀ v, (agSt m K c 2 ∗ aPts c c (shareDrop fullShare 15) (gathC m)) -∗ Q v)
      -∗ wp frame (wpE (defs₀ (F := F)) 𝒱₀ (c : Thread nD τ) none) Set.univ
        (k0_part20 xM hX qM hQ woM hW kM hK vM hV outM hOut oM hO rM hR aM hA cc0_scratch3 cc0_scratch4 cc0_scratch5 cc0_scratch6 c v2 (k0_pay2 (ldWo m c)) (k0_pay22 (recvO m c) (recvL m c))) Q) := by
  rw [k0_part20_eq_skeleton]; unfold k0_part20_skel
  simp only [semWaitWord, Prog.lift, Prog.bind_op, Prog.bind_ret, Prog.pure_eq_ret]
  iintro ⟨#HR, ⟨%f, Ho⟩, Ha, Ht, HO⟩ Hk
  ihave Ho := (Entails.of_eq (show aPts c c fullShare f = ((aM.view.loc (c : Thread nD τ)) ↦[(aS c).view.set]{fullShare} f : sProp 𝕄) from rfl)) $$ Ho
  iapply (wp_load 𝒱₀ (c : Thread nD τ) none Set.univ (m := aM) (S := (aS c).view.set) (by
    refine Finset.Subset.trans ?_ (own_rows_set c).subset; exact (View.set_slice _ _).symm.subset)) $$ Ho; iintro Ho
  iapply (wp_store 𝒱₀ (c : Thread nD τ) none Set.univ (m := aM)
    (r := Rect.unit (s := S256x512) (k0_off6 c) S16x512.size (k0_off6_inb c)) (Mk := Finset.univ) (S := (aS c).view.set) (own_rows_set c).subset) $$ [Ho]
  · iexact Ho
  iintro Ho
  ihave Ho := (own_rows_done m c f) $$ Ho
  ihave HS := (agSt_start m K c) $$ [Ho Ha Ht HO]
  · isplitr; · iexact HR
    isplitl [Ho]; · iexact Ho
    isplitl [Ha]; · iexact Ha
    isplitl [Ht]; · iexact Ht
    iexact HO
  icases HS with ⟨HS, Hd⟩
  iapply (ag_at m K c 0 (by decide) (k0_dev31_eq c) rfl rfl) $$ HS; iintro HS
  iapply (ag_at m K c 1 (by decide) (k0_dev32_eq c) rfl rfl) $$ HS; iintro HS
  rw [wp_ret]; imodintro
  iapply Hk
  isplitl [HS]; · iexact HS
  iexact Hd

/-- Copies 2 to 3 of results. -/
theorem part21_run (v2 w : BitVec 32) {Q : _ → sProp 𝕄} :
    agSt m K c 2
      ⊢ iprop((∀ v, agSt m K c 4 -∗ Q v)
      -∗ wp frame (wpE (defs₀ (F := F)) 𝒱₀ (c : Thread nD τ) none) Set.univ
        (k0_part21 xM hX qM hQ woM hW kM hK vM hV outM hOut oM hO rM hR aM hA cc0_scratch3 cc0_scratch4 cc0_scratch5 cc0_scratch6 c v2 w) Q) := by
  rw [k0_part21_eq_skeleton]; unfold k0_part21_skel
  simp only [semWaitWord, Prog.lift, Prog.bind_op, Prog.bind_ret, Prog.pure_eq_ret]
  iintro HS Hk
  iapply (ag_at m K c 2 (by decide) (k0_dev33_eq c) rfl rfl) $$ HS; iintro HS
  iapply (ag_at m K c 3 (by decide) (k0_dev34_eq c) rfl rfl) $$ HS; iintro HS
  rw [wp_ret]; imodintro
  iapply Hk $$ HS

/-- Copies 4 to 5 of results. -/
theorem part22_run (v2 v631 w : BitVec 32) {Q : _ → sProp 𝕄} :
    agSt m K c 4
      ⊢ iprop((∀ v, agSt m K c 6 -∗ Q v)
      -∗ wp frame (wpE (defs₀ (F := F)) 𝒱₀ (c : Thread nD τ) none) Set.univ
        (k0_part22 xM hX qM hQ woM hW kM hK vM hV outM hOut oM hO rM hR aM hA cc0_scratch3 cc0_scratch4 cc0_scratch5 cc0_scratch6 c v2 v631 w) Q) := by
  rw [k0_part22_eq_skeleton]; unfold k0_part22_skel
  simp only [semWaitWord, Prog.lift, Prog.bind_op, Prog.bind_ret, Prog.pure_eq_ret]
  iintro HS Hk
  iapply (ag_at m K c 4 (by decide) (k0_dev35_eq c) rfl rfl) $$ HS; iintro HS
  iapply (ag_at m K c 5 (by decide) (k0_dev36_eq c) rfl rfl) $$ HS; iintro HS
  rw [wp_ret]; imodintro
  iapply Hk $$ HS

/-- Copies 6 to 7 of results. -/
theorem part23_run (v2 v662 : BitVec 32) {Q : _ → sProp 𝕄} :
    agSt m K c 6
      ⊢ iprop((∀ v, agSt m K c 8 -∗ Q v)
      -∗ wp frame (wpE (defs₀ (F := F)) 𝒱₀ (c : Thread nD τ) none) Set.univ
        (k0_part23 xM hX qM hQ woM hW kM hK vM hV outM hOut oM hO rM hR aM hA cc0_scratch3 cc0_scratch4 cc0_scratch5 cc0_scratch6 c v2 v662) Q) := by
  rw [k0_part23_eq_skeleton]; unfold k0_part23_skel
  simp only [semWaitWord, Prog.lift, Prog.bind_op, Prog.bind_ret, Prog.pure_eq_ret]
  iintro HS Hk
  iapply (ag_at m K c 6 (by decide) (k0_dev37_eq c) rfl rfl) $$ HS; iintro HS
  iapply (ag_at m K c 7 (by decide) (k0_dev38_eq c) rfl rfl) $$ HS; iintro HS
  rw [wp_ret]; imodintro
  iapply Hk $$ HS

/-- Copies 8 to 9 of results. -/
theorem part24_run (v2 : BitVec 32) {Q : _ → sProp 𝕄} :
    agSt m K c 8
      ⊢ iprop((∀ v, agSt m K c 10 -∗ Q v)
      -∗ wp frame (wpE (defs₀ (F := F)) 𝒱₀ (c : Thread nD τ) none) Set.univ
        (k0_part24 xM hX qM hQ woM hW kM hK vM hV outM hOut oM hO rM hR aM hA cc0_scratch3 cc0_scratch4 cc0_scratch5 cc0_scratch6 c v2) Q) := by
  rw [k0_part24_eq_skeleton]; unfold k0_part24_skel
  simp only [semWaitWord, Prog.lift, Prog.bind_op, Prog.bind_ret, Prog.pure_eq_ret]
  iintro HS Hk
  iapply (ag_at m K c 8 (by decide) (k0_dev39_eq c) rfl rfl) $$ HS; iintro HS
  iapply (ag_at m K c 9 (by decide) (k0_dev40_eq c) rfl rfl) $$ HS; iintro HS
  rw [wp_ret]; imodintro
  iapply Hk $$ HS

/-- Copies 10 to 12 of results. -/
theorem part25_run (v2 : BitVec 32) {Q : _ → sProp 𝕄} :
    agSt m K c 10
      ⊢ iprop((∀ v, agSt m K c 13 -∗ Q v)
      -∗ wp frame (wpE (defs₀ (F := F)) 𝒱₀ (c : Thread nD τ) none) Set.univ
        (k0_part25 xM hX qM hQ woM hW kM hK vM hV outM hOut oM hO rM hR aM hA cc0_scratch3 cc0_scratch4 cc0_scratch5 cc0_scratch6 c v2) Q) := by
  rw [k0_part25_eq_skeleton]; unfold k0_part25_skel
  simp only [semWaitWord, Prog.lift, Prog.bind_op, Prog.bind_ret, Prog.pure_eq_ret]
  iintro HS Hk
  iapply (ag_at m K c 10 (by decide) (k0_dev41_eq c) rfl rfl) $$ HS; iintro HS
  iapply (ag_at m K c 11 (by decide) (k0_dev42_eq c) rfl rfl) $$ HS; iintro HS
  iapply (ag_at m K c 12 (by decide) (k0_dev43_eq c) rfl rfl) $$ HS; iintro HS
  rw [wp_ret]; imodintro
  iapply Hk $$ HS

/-- Copies 13 to 14 of results. -/
theorem part26_run (v2 v756 : BitVec 32) {Q : _ → sProp 𝕄} :
    agSt m K c 13
      ⊢ iprop((∀ v, agSt m K c 15 -∗ Q v)
      -∗ wp frame (wpE (defs₀ (F := F)) 𝒱₀ (c : Thread nD τ) none) Set.univ
        (k0_part26 xM hX qM hQ woM hW kM hK vM hV outM hOut oM hO rM hR aM hA cc0_scratch3 cc0_scratch4 cc0_scratch5 cc0_scratch6 c v2 v756) Q) := by
  rw [k0_part26_eq_skeleton]; unfold k0_part26_skel
  simp only [semWaitWord, Prog.lift, Prog.bind_op, Prog.bind_ret, Prog.pure_eq_ret]
  iintro HS Hk
  iapply (ag_at m K c 13 (by decide) (k0_dev44_eq c) rfl rfl) $$ HS; iintro HS
  iapply (ag_at m K c 14 (by decide) (k0_dev45_eq c) rfl rfl) $$ HS; iintro HS
  rw [wp_ret]; imodintro
  iapply Hk $$ HS

end Cert.K

end
-- ==== Proof.Parts4.lean ====
/-
The waits for the other devices' results, the stores of the result block, and the waits for the device's own copies.
-/
module

public import proofs.«01_k».proof.Proof.Parts3

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- Waits 0 to 3 for results. -/
theorem part27_run (v589 v603 v617 v631 v645 : BitVec 32) {Q : _ → sProp 𝕄} :
    waitSt m K c 3 Fin.rev 0 0
      ⊢ iprop((waitSt m K c 3 Fin.rev 0 4 -∗ Q ⟨⟩)
      -∗ wp frame (wpE (defs₀ (F := F)) 𝒱₀ (c : Thread nD τ) none) Set.univ
        (k0_part27 xM hX qM hQ woM hW kM hK vM hV outM hOut oM hO rM hR aM hA cc0_scratch3 cc0_scratch4 cc0_scratch5 cc0_scratch6 c v589 v603 v617 v631 v645) Q) := by
  rw [k0_part27_eq_skeleton]; unfold k0_part27_skel
  simp only [semWaitWord, Prog.lift, Prog.bind_op, Prog.bind_ret, Prog.pure_eq_ret]
  iintro HS Hk
  iapply (agw_at m K c 0 (by decide) rfl) $$ HS; iintro HS
  iapply (agw_at m K c 1 (by decide) rfl) $$ HS; iintro HS
  iapply (agw_at m K c 2 (by decide) rfl) $$ HS; iintro HS
  iapply (agw_at m K c 3 (by decide) rfl) $$ HS; iintro HS
  rw [wp_ret]; imodintro
  iapply Hk $$ HS

/-- Waits 4 to 8 for results. -/
theorem part28_run (v659 v673 v687 v701 v715 : BitVec 32) {Q : _ → sProp 𝕄} :
    waitSt m K c 3 Fin.rev 0 4
      ⊢ iprop((∀ v, waitSt m K c 3 Fin.rev 0 9 -∗ Q v)
      -∗ wp frame (wpE (defs₀ (F := F)) 𝒱₀ (c : Thread nD τ) none) Set.univ
        (k0_part28 xM hX qM hQ woM hW kM hK vM hV outM hOut oM hO rM hR aM hA cc0_scratch3 cc0_scratch4 cc0_scratch5 cc0_scratch6 c v659 v673 v687 v701 v715) Q) := by
  rw [k0_part28_eq_skeleton]; unfold k0_part28_skel
  simp only [semWaitWord, Prog.lift, Prog.bind_op, Prog.bind_ret, Prog.pure_eq_ret]
  iintro HS Hk
  iapply (agw_at m K c 4 (by decide) rfl) $$ HS; iintro HS
  iapply (agw_at m K c 5 (by decide) rfl) $$ HS; iintro HS
  iapply (agw_at m K c 6 (by decide) rfl) $$ HS; iintro HS
  iapply (agw_at m K c 7 (by decide) rfl) $$ HS; iintro HS
  iapply (agw_at m K c 8 (by decide) rfl) $$ HS; iintro HS
  rw [wp_ret]; imodintro
  iapply Hk $$ HS

/-- Waits 9 to 13 for results. -/
theorem part29_run (v729 v743 v757 v771 v841 w : BitVec 32) {Q : _ → sProp 𝕄} :
    waitSt m K c 3 Fin.rev 0 9
      ⊢ iprop((waitSt m K c 3 Fin.rev 0 14 -∗ Q ⟨⟩)
      -∗ wp frame (wpE (defs₀ (F := F)) 𝒱₀ (c : Thread nD τ) none) Set.univ
        (k0_part29 xM hX qM hQ woM hW kM hK vM hV outM hOut oM hO rM hR aM hA cc0_scratch3 cc0_scratch4 cc0_scratch5 cc0_scratch6 c v729 v743 v757 v771 v841 w) Q) := by
  rw [k0_part29_eq_skeleton]; unfold k0_part29_skel
  simp only [semWaitWord, Prog.lift, Prog.bind_op, Prog.bind_ret, Prog.pure_eq_ret]
  iintro HS Hk
  iapply (agw_at m K c 9 (by decide) rfl) $$ HS; iintro HS
  iapply (agw_at m K c 10 (by decide) rfl) $$ HS; iintro HS
  iapply (agw_at m K c 11 (by decide) rfl) $$ HS; iintro HS
  iapply (agw_at m K c 12 (by decide) rfl) $$ HS; iintro HS
  iapply (agw_at m K c 13 (by decide) rfl) $$ HS; iintro HS
  rw [wp_ret]; imodintro
  iapply Hk $$ HS

/-- The last wait for results; the gathered rows are read and stored as the result block; the first two waits for the device's own copies. -/
theorem part30_run (o : Out F) (v785 : BitVec 32) {Q : _ → sProp 𝕄} :
    iprop(waitSt m K c 3 Fin.rev 0 14 ∗ aPts c c (shareDrop fullShare 15) (gathC m) ∗ wPts c cc0_stg5_0 o
        ∗ records m K ∗ levAts L lv ∗ waitToks (F := F) c 0)
      ⊢ iprop((((bigSep Finset.univ fun r => atPos ER (dcell c 3 r) 1 ∅ 0) ∗ (((c : Thread nD τ).loc cc0_scratch2) ↦{shareDrop fullShare 15} gathC m)
          ∗ (bigSep Finset.univ fun r => bigSep Finset.univ fun i : Fin 15 => aPts c (nx c r) (shareTok fullShare 15 i) (gathC m))
          ∗ wPts c cc0_stg5_0 (outW m o) ∗ waitSt m K c 0 id 0 2) -∗ Q ⟨⟩)
      -∗ wp frame (wpE (defs₀ (F := F)) 𝒱₀ (c : Thread nD τ) none) Set.univ
        (k0_part30 xM hX qM hQ woM hW kM hK vM hV outM hOut oM hO rM hR aM hA cc0_scratch3 cc0_scratch4 cc0_scratch5 cc0_scratch6 c v785) Q) := by
  rw [k0_part30_eq_skeleton]; unfold k0_part30_skel
  simp only [semWaitWord, Prog.lift, Prog.bind_op, Prog.bind_ret, Prog.pure_eq_ret]
  iintro ⟨HS, Hd, Hout, HC⟩ Hk
  iapply (agw_at m K c 14 (by decide) rfl) $$ HS; iintro HS
  ihave HS := (waitSt_end m K c 3 Fin.revPerm Fin.rev rfl 0) $$ HS
  icases HS with ⟨Hp, Ha, HO⟩
  ihave Hg := (gath_lend m c) $$ [Hd Hp]
  · isplitl [Hd]; · iexact Hd
    iexact Hp
  icases Hg with ⟨Hg, Hl⟩
  iapply (wp_load 𝒱₀ (c : Thread nD τ) none Set.univ (m := aM) (Finset.subset_univ _)) $$ Hg; iintro Hg
  iapply (wp_load 𝒱₀ (c : Thread nD τ) none Set.univ (m := outM) (Finset.subset_univ _)) $$ Hout; iintro Hout
  iapply (wp_store 𝒱₀ (c : Thread nD τ) none Set.univ (m := outM) (Mk := Finset.univ) (Finset.subset_univ _)) $$ [Hout]
  · iexact Hout
  iintro Hout
  iapply (wp_load 𝒱₀ (c : Thread nD τ) none Set.univ (m := aM) (Finset.subset_univ _)) $$ Hg; iintro Hg
  iapply (wp_load 𝒱₀ (c : Thread nD τ) none Set.univ (m := outM) (Finset.subset_univ _)) $$ Hout; iintro Hout
  iapply (wp_store 𝒱₀ (c : Thread nD τ) none Set.univ (m := outM) (Mk := Finset.univ) (Finset.subset_univ _)) $$ [Hout]
  · iexact Hout
  iintro Hout
  ihave HS := (waitSt_start m K c 0 (Equiv.refl _) id rfl 0) $$ [HC HO]
  · icases HC with ⟨#HR, #Hl, HC⟩
    isplitr; · iexact HR
    isplitr; · iexact Hl
    isplitl [HC]; · iexact HC
    iexact HO
  iapply (rsd_at m K c 0 (by decide) rfl) $$ HS; iintro HS
  iapply (rsd_at m K c 1 (by decide) rfl) $$ HS; iintro HS
  rw [wp_ret]; imodintro
  iapply Hk
  isplitl [Ha]; · iexact Ha
  isplitl [Hg]; · iexact Hg
  isplitl [Hl]; · iexact Hl
  isplitl [Hout]; · iexact Hout
  iexact HS

/-- Waits 2 to 6 for the device's own copies of partial sums. -/
theorem part31_run {Q : _ → sProp 𝕄} :
    waitSt m K c 0 id 0 2
      ⊢ iprop((waitSt m K c 0 id 0 7 -∗ Q ⟨⟩)
      -∗ wp frame (wpE (defs₀ (F := F)) 𝒱₀ (c : Thread nD τ) none) Set.univ
        (k0_part31 xM hX qM hQ woM hW kM hK vM hV outM hOut oM hO rM hR aM hA cc0_scratch3 cc0_scratch4 cc0_scratch5 cc0_scratch6 c) Q) := by
  rw [k0_part31_eq_skeleton]; unfold k0_part31_skel
  simp only [semWaitWord, Prog.lift, Prog.bind_op, Prog.bind_ret, Prog.pure_eq_ret]
  iintro HS Hk
  iapply (rsd_at m K c 2 (by decide) rfl) $$ HS; iintro HS
  iapply (rsd_at m K c 3 (by decide) rfl) $$ HS; iintro HS
  iapply (rsd_at m K c 4 (by decide) rfl) $$ HS; iintro HS
  iapply (rsd_at m K c 5 (by decide) rfl) $$ HS; iintro HS
  iapply (rsd_at m K c 6 (by decide) rfl) $$ HS; iintro HS
  rw [wp_ret]; imodintro
  iapply Hk $$ HS

/-- Waits 7 to 11 for the device's own copies of partial sums. -/
theorem part32_run {Q : _ → sProp 𝕄} :
    waitSt m K c 0 id 0 7
      ⊢ iprop((waitSt m K c 0 id 0 12 -∗ Q ⟨⟩)
      -∗ wp frame (wpE (defs₀ (F := F)) 𝒱₀ (c : Thread nD τ) none) Set.univ
        (k0_part32 xM hX qM hQ woM hW kM hK vM hV outM hOut oM hO rM hR aM hA cc0_scratch3 cc0_scratch4 cc0_scratch5 cc0_scratch6 c) Q) := by
  rw [k0_part32_eq_skeleton]; unfold k0_part32_skel
  simp only [semWaitWord, Prog.lift, Prog.bind_op, Prog.bind_ret, Prog.pure_eq_ret]
  iintro HS Hk
  iapply (rsd_at m K c 7 (by decide) rfl) $$ HS; iintro HS
  iapply (rsd_at m K c 8 (by decide) rfl) $$ HS; iintro HS
  iapply (rsd_at m K c 9 (by decide) rfl) $$ HS; iintro HS
  iapply (rsd_at m K c 10 (by decide) rfl) $$ HS; iintro HS
  iapply (rsd_at m K c 11 (by decide) rfl) $$ HS; iintro HS
  rw [wp_ret]; imodintro
  iapply Hk $$ HS

/-- The last waits for the copies of partial sums, and the first for the copies of results. -/
theorem part33_run {Q : _ → sProp 𝕄} :
    iprop(waitSt m K c 0 id 0 12 ∗ records m K ∗ levAts L lv ∗ waitToks (F := F) c 2)
      ⊢ iprop((((bigSep Finset.univ fun r => pay m c 0 r) ∗ (bigSep Finset.univ fun r => atPos ER (dcell c 0 r) 1 ∅ 0) ∗ waitSt m K c 2 id 0 2) -∗ Q ⟨⟩)
      -∗ wp frame (wpE (defs₀ (F := F)) 𝒱₀ (c : Thread nD τ) none) Set.univ
        (k0_part33 xM hX qM hQ woM hW kM hK vM hV outM hOut oM hO rM hR aM hA cc0_scratch3 cc0_scratch4 cc0_scratch5 cc0_scratch6 c) Q) := by
  rw [k0_part33_eq_skeleton]; unfold k0_part33_skel
  simp only [semWaitWord, Prog.lift, Prog.bind_op, Prog.bind_ret, Prog.pure_eq_ret]
  iintro ⟨HS, #HR, #Hl, Hw⟩ Hk
  iapply (rsd_at m K c 12 (by decide) rfl) $$ HS; iintro HS
  iapply (rsd_at m K c 13 (by decide) rfl) $$ HS; iintro HS
  iapply (rsd_at m K c 14 (by decide) rfl) $$ HS; iintro HS
  ihave HS := (waitSt_end m K c 0 (Equiv.refl _) id rfl 0) $$ HS
  icases HS with ⟨Hp, Ha, HO⟩
  ihave HS := (waitSt_start m K c 2 (Equiv.refl _) id rfl 0) $$ [Hw HO]
  · isplitr; · iexact HR
    isplitr; · iexact Hl
    isplitl [Hw]; · iexact Hw
    iexact HO
  iapply (agd_at m K c 0 (by decide) rfl) $$ HS; iintro HS
  iapply (agd_at m K c 1 (by decide) rfl) $$ HS; iintro HS
  rw [wp_ret]; imodintro
  iapply Hk
  isplitl [Hp]; · iexact Hp
  isplitl [Ha]; · iexact Ha
  iexact HS

/-- Waits 2 to 7 for the device's own copies of results. -/
theorem part34_run {Q : _ → sProp 𝕄} :
    waitSt m K c 2 id 0 2
      ⊢ iprop((waitSt m K c 2 id 0 8 -∗ Q ⟨⟩)
      -∗ wp frame (wpE (defs₀ (F := F)) 𝒱₀ (c : Thread nD τ) none) Set.univ
        (k0_part34 xM hX qM hQ woM hW kM hK vM hV outM hOut oM hO rM hR aM hA cc0_scratch3 cc0_scratch4 cc0_scratch5 cc0_scratch6 c) Q) := by
  rw [k0_part34_eq_skeleton]; unfold k0_part34_skel
  simp only [semWaitWord, Prog.lift, Prog.bind_op, Prog.bind_ret, Prog.pure_eq_ret]
  iintro HS Hk
  iapply (agd_at m K c 2 (by decide) rfl) $$ HS; iintro HS
  iapply (agd_at m K c 3 (by decide) rfl) $$ HS; iintro HS
  iapply (agd_at m K c 4 (by decide) rfl) $$ HS; iintro HS
  iapply (agd_at m K c 5 (by decide) rfl) $$ HS; iintro HS
  iapply (agd_at m K c 6 (by decide) rfl) $$ HS; iintro HS
  iapply (agd_at m K c 7 (by decide) rfl) $$ HS; iintro HS
  rw [wp_ret]; imodintro
  iapply Hk $$ HS

/-- Waits 8 to 13 for the device's own copies of results. -/
theorem part35_run {Q : _ → sProp 𝕄} :
    waitSt m K c 2 id 0 8
      ⊢ iprop((waitSt m K c 2 id 0 14 -∗ Q ⟨⟩)
      -∗ wp frame (wpE (defs₀ (F := F)) 𝒱₀ (c : Thread nD τ) none) Set.univ
        (k0_part35 xM hX qM hQ woM hW kM hK vM hV outM hOut oM hO rM hR aM hA cc0_scratch3 cc0_scratch4 cc0_scratch5 cc0_scratch6 c) Q) := by
  rw [k0_part35_eq_skeleton]; unfold k0_part35_skel
  simp only [semWaitWord, Prog.lift, Prog.bind_op, Prog.bind_ret, Prog.pure_eq_ret]
  iintro HS Hk
  iapply (agd_at m K c 8 (by decide) rfl) $$ HS; iintro HS
  iapply (agd_at m K c 9 (by decide) rfl) $$ HS; iintro HS
  iapply (agd_at m K c 10 (by decide) rfl) $$ HS; iintro HS
  iapply (agd_at m K c 11 (by decide) rfl) $$ HS; iintro HS
  iapply (agd_at m K c 12 (by decide) rfl) $$ HS; iintro HS
  iapply (agd_at m K c 13 (by decide) rfl) $$ HS; iintro HS
  rw [wp_ret]; imodintro
  iapply Hk $$ HS

end Cert.K

end
-- ==== Proof.Body.lean ====
/-
One device's body from its first signal to its last wait, the pieces put together.
-/
module

public import proofs.«01_k».proof.Proof.Parts4

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The tokens and positions a device is dealt. -/
def linear : sProp 𝕄 :=
  iprop((bigSep Finset.univ fun r => dutyTok ER (barCell (nx c r)) 0 (Fin.rev r))
    ∗ (bigSep Finset.univ fun r => dutyTok ER (dcell c 0 r) 0 0)
    ∗ (bigSep Finset.univ fun r => dutyTok ER (dcell (nx c r) 1 (Fin.rev r)) 0 0)
    ∗ gathToks (F := F) c
    ∗ atPos ER (barCell c) 0 ∅ 0
    ∗ (bigSep Finset.univ fun r => atPos ER (dcell c 0 r) 0 ∅ 0)
    ∗ (bigSep Finset.univ fun r => atPos ER (dcell c 1 r) 0 ∅ 0)
    ∗ (bigSep Finset.univ fun r => atPos ER (dcell c 2 r) 0 ∅ 0)
    ∗ bigSep Finset.univ fun r => atPos ER (dcell c 3 r) 0 ∅ 0)

/-- The credits of what the other devices owe it. -/
def credits : sProp 𝕄 :=
  iprop(cred (tallyAt (barCell c) () 15)
    ∗ (bigSep Finset.univ fun r => cred (tallyAt (dcell c 1 r) () (amt 1)))
    ∗ bigSep Finset.univ fun r => cred (tallyAt (dcell c 3 r) () (amt 3)))

/-- Its three scratch buffers, at any contents. -/
def scratch : sProp 𝕄 :=
  iprop((∃ f, wPts (F := F) c cc0_scratch0 f) ∗ (∃ f, wPts (F := F) c cc0_scratch1 f) ∗ ∃ f, wPts (F := F) c cc0_scratch2 f)

/-- Its semaphores at zero. -/
def zeros : sProp 𝕄 :=
  iprop(semVal (barCell c) 0
    ∗ (bigSep Finset.univ fun r => semVal (dcell c 0 r) 0) ∗ (bigSep Finset.univ fun r => semVal (dcell c 1 r) 0)
    ∗ (bigSep Finset.univ fun r => semVal (dcell c 2 r) 0) ∗ bigSep Finset.univ fun r => semVal (dcell c 3 r) 0)

/-- The five staged inputs. -/
def inputs : sProp 𝕄 :=
  iprop(wPts c cc0_stg0_0 (xC m c) ∗ wPts c cc0_stg1_0 (qC m c) ∗ wPts c cc0_stg2_0 (woC m c) ∗ wPts c cc0_stg3_0 (kC m c) ∗ wPts c cc0_stg4_0 (vC m c))

/-- A persistent fact serves every member of a family. -/
theorem bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

/-- An array's cells close: their counters, at zero, are the device's again. -/
theorem close_dma (k : Fin 4) :
    iprop(records m K ∗ bigSep Finset.univ fun r => atPos ER (dcell c k r) 1 ∅ 0)
      ⊢ (|={Set.univ}=> bigSep Finset.univ fun r => semVal (dcell c k r) 0 : sProp 𝕄) := by
  refine (bigSep_pers (Ψ := fun r => (iprop(|={Set.univ}=> semVal (dcell c k r) 0) : sProp 𝕄)) fun r _ => ?_).trans (bigSep_fupd _ _)
  iintro ⟨#HR, Ha⟩
  ihave HI := (inv_dma m K c k r) $$ HR
  icases HI with ⟨#HI, -⟩
  iapply (Rounds.cell_close ER (sched m) (Set.mem_univ (K (c, .inr (k, r)))) (fun h => h) (R := 1) (duties_later m (dcell c k r)))
  isplitr; · iexact HI
  iexact Ha

theorem close_bar :
    iprop(records m K ∗ atPos ER (barCell c) 1 ∅ 0) ⊢ (|={Set.univ}=> semVal (barCell c) 0 : sProp 𝕄) := by
  iintro ⟨#HR, Ha⟩
  ihave HI := (inv_bar m K c) $$ HR
  icases HI with ⟨#HI, -⟩
  iapply (Rounds.cell_close ER (sched m) (Set.mem_univ (K (c, .inl ()))) (fun h => h) (R := 1) (duties_later m (barCell c)))
  isplitr; · iexact HI
  iexact Ha

/-- The first state: everything that the signals hand over. -/
theorem sigSt_start (f1 : (cc0_scratch1 : Ref sig .tc).ty.Contents (Elt F)) (f2 : (cc0_scratch2 : Ref sig .tc).ty.Contents (Elt F)) :
    iprop(records m K ∗ (bigSep Finset.univ fun r => dutyTok ER (barCell (nx c r)) 0 (Fin.rev r))
        ∗ (bigSep Finset.univ fun r => rPts c (nx c r) f1) ∗ (bigSep Finset.univ fun r => aPts c (nx c r) fullShare f2) ∗ owesS c (O₀ c))
      ⊢ sigSt m K c 0 := by
  unfold sigSt barPay O₀
  rw [fromN_zero]
  simp only [bigSep_sep', nx_rev]
  have e1 : (bigSep Finset.univ fun r => rPts c (nx c r) f1) ⊢ (bigSep Finset.univ fun r => iprop(∃ f, rPts (F := F) c (nx c r) f) : sProp 𝕄) :=
    bigSep_mono fun r _ => show rPts c (nx c r) f1 ⊢ (iprop(∃ f, rPts (F := F) c (nx c r) f) : sProp 𝕄) from by iintro H; iexists f1; iexact H
  have e2 : (bigSep Finset.univ fun r => aPts c (nx c r) fullShare f2) ⊢ (bigSep Finset.univ fun r => iprop(∃ f, aPts (F := F) c (nx c r) fullShare f) : sProp 𝕄) :=
    bigSep_mono fun r _ => show aPts c (nx c r) fullShare f2 ⊢ (iprop(∃ f, aPts (F := F) c (nx c r) fullShare f) : sProp 𝕄) from by iintro H; iexists f2; iexact H
  iintro ⟨#HR, H, H1, H2, HO⟩
  isplitr; · iexact HR
  isplitr [HO]
  · isplitl [H]; · iexact H
    isplitl [H1]; · iapply e1; iexact H1
    iapply e2; iexact H2
  iexact HO

/-- After the signals: only copies are owed. -/
theorem sigSt_end : sigSt m K c 15 ⊢ owesS c (oAg c 0 + oRs c 0) := by
  unfold sigSt
  rw [oBar_last, add_zero]
  iintro ⟨-, -, HO⟩; iexact HO

theorem agSt_end :
    agSt m K c 15 ⊢ iprop((bigSep Finset.univ fun r => cred (tallyAt (dcell c 2 r) () (amt 2))) ∗ owesS c 0) := by
  unfold agSt
  rw [uptoN_last, oAg_last]
  iintro ⟨-, -, Hc, HO⟩
  isplitl [Hc]; · iexact Hc
  iexact HO

theorem waitToks_intro (k : Fin 4) :
    iprop((bigSep Finset.univ fun r => cred (tallyAt (dcell c k r) () (amt k))) ∗ bigSep Finset.univ fun r => atPos ER (dcell c k r) 0 ∅ 0)
      ⊢ waitToks (F := F) c k := by
  unfold waitToks; rw [bigSep_sep']

theorem sendToks_intro (g : OBuf F) :
    iprop((bigSep Finset.univ fun r => oPts c (nx c r) (obufC m c g)) ∗ (bigSep Finset.univ fun r => dutyTok ER (dcell c 0 r) 0 0)
        ∗ bigSep Finset.univ fun r => dutyTok ER (dcell (nx c r) 1 (Fin.rev r)) 0 0)
      ⊢ sendToks m c g := by
  unfold sendToks; rw [bigSep_sep', bigSep_sep']

/-- What array 0's waits give back. -/
theorem pay_blocks : (bigSep Finset.univ fun r => pay m c 0 r) ⊢ (bigSep Finset.univ fun r => iprop(∃ g, oPts (F := F) c (nx c r) g) : sProp 𝕄) :=
  bigSep_mono fun r _ => show pay m c 0 r ⊢ (iprop(∃ g, oPts (F := F) c (nx c r) g) : sProp 𝕄) from Entails.of_eq (by unfold pay; rw [if_pos rfl])
/-- What array 1's waits give. -/
theorem pay_slots : (bigSep Finset.univ fun r => pay m c 1 r) ⊢ (bigSep Finset.univ fun r => rGot m c (nx c r) : sProp 𝕄) :=
  bigSep_mono fun r _ => show pay m c 1 r ⊢ (rGot m c (nx c r) : sProp 𝕄) from Entails.of_eq (by unfold pay; rw [if_neg (by decide), if_pos rfl])
/-- What array 2's waits give back. -/
theorem pay_shares : (bigSep Finset.univ fun r => pay m c 2 r) ⊢ (bigSep Finset.univ fun r => aPts c c (shareTok fullShare 15 r) (gathC m) : sProp 𝕄) :=
  bigSep_mono fun r _ => show pay m c 2 r ⊢ (aPts c c (shareTok fullShare 15 r) (gathC m) : sProp 𝕄) from Entails.of_eq (by unfold pay; rw [if_neg (by decide), if_neg (by decide), if_pos rfl])

set_option maxHeartbeats 1600000 in
/-- The body: from the state a device starts in to the staged result and its semaphores at zero. -/
theorem body_run (o : Out F) {Q : PUnit → sProp 𝕄} :
    iprop(records m K ∗ levAts L lv ∗ linear (F := F) c ∗ credits (F := F) c ∗ scratch (F := F) c ∗ owesS c (O₀ c) ∗ inputs m c ∗ wPts c cc0_stg5_0 o)
      ⊢ iprop(((scratch (F := F) c ∗ zeros (F := F) c ∗ owesS c 0 ∗ inputs m c ∗ wPts c cc0_stg5_0 (outC m)) -∗ Q ⟨⟩)
      -∗ wp frame (wpE (defs₀ (F := F)) 𝒱₀ (c : Thread nD τ) none) Set.univ (cc0_body xM hX qM hQ woM hW kM hK vM hV outM hOut oM hO rM hR aM hA cc0_scratch3 cc0_scratch4 cc0_scratch5 cc0_scratch6) Q) := by
  rw [cc0_body_eq_skeleton]; unfold cc0_body_skel linear credits scratch inputs
  iintro ⟨#HR, #Hlev, ⟨Hsg, Ht0, Ht1, Htg, Hab, Ha0, Ha1, Ha2, Ha3⟩, ⟨Hcb, Hc1, Hc3⟩, ⟨⟨%g, Hs0⟩, ⟨%f1, Hs1⟩, ⟨%f2, Hs2⟩⟩, HO, ⟨Hx, Hq, Hw, Hkk, Hv⟩, Hout⟩ Hk
  ihave Hs1 := (Entails.of_eq (slots_split c f1)) $$ Hs1
  icases Hs1 with ⟨Hr, Hs1⟩
  ihave Hs2 := (Entails.of_eq (rows_split c fullShare f2)) $$ Hs2
  icases Hs2 with ⟨Ha, Hs2⟩
  ihave HS := (sigSt_start m K c f1 f2) $$ [Hsg Hs1 Hs2 HO]
  · isplitr; · iexact HR
    isplitl [Hsg]; · iexact Hsg
    isplitl [Hs1]; · iexact Hs1
    isplitl [Hs2]; · iexact Hs2
    iexact HO
  rw [wp_bind]; iapply (part1_run m K c) $$ HS; iintro %v2 %v24 %w1 HS; try dsimp only
  rw [wp_bind]; iapply (part2_run m K c v2 v24 w1) $$ HS; iintro %v HS; obtain ⟨v48, w2⟩ := v; try dsimp only
  rw [wp_bind]; iapply (part3_run m K c v2 v48 w2) $$ [HS Hx Hq Hw]
  · isplitl [HS]; · iexact HS
    isplitl [Hx]; · iexact Hx
    isplitl [Hq]; · iexact Hq
    iexact Hw
  iintro ⟨HS, Hx, Hq, Hw⟩; try dsimp only
  rw [wp_bind]; iapply (part4_run m c g) $$ [Hkk Hv Hs0]
  · isplitl [Hkk]; · iexact Hkk
    isplitl [Hv]; · iexact Hv
    iexact Hs0
  iintro ⟨Hkk, Hv, Hs0⟩; try dsimp only
  rw [wp_bind]; iapply (part5_run m c _) $$ [Hx Hv Hs0]
  · isplitl [Hx]; · iexact Hx
    isplitl [Hv]; · iexact Hv
    iexact Hs0
  iintro ⟨Hx, Hv, Hs0⟩; try dsimp only
  rw [wp_bind]; iapply (part6_run m c _) $$ [Hkk Hv Hs0]
  · isplitl [Hkk]; · iexact Hkk
    isplitl [Hv]; · iexact Hv
    iexact Hs0
  iintro ⟨Hkk, Hv, Hs0⟩; try dsimp only
  rw [wp_bind]; iapply (part7_run m c g f1 v2) $$ [Hkk Hv Hs0 Hr]
  · isplitl [Hkk]; · iexact Hkk
    isplitl [Hv]; · iexact Hv
    isplitl [Hs0]; · iexact Hs0
    iexact Hr
  iintro ⟨Hkk, Hv, Hs0, Hr⟩; try dsimp only
  ihave HO := (sigSt_end m K c) $$ HS
  ihave Hs0 := (Entails.of_eq (blocks_split c (obufC m c g))) $$ Hs0
  icases Hs0 with ⟨Hb, Hs0⟩
  ihave Hst := (sendToks_intro m c g) $$ [Hs0 Ht0 Ht1]
  · isplitl [Hs0]; · iexact Hs0
    isplitl [Ht0]; · iexact Ht0
    iexact Ht1
  rw [wp_bind]; iapply (part8_run m K c g v2) $$ [Hcb Hab HO Hst]
  · isplitr; · iexact HR
    isplitr; · iexact Hlev
    isplitl [Hcb]; · iexact Hcb
    isplitl [Hab]; · iexact Hab
    isplitl [HO]; · iexact HO
    iexact Hst
  iintro %v ⟨HS, Hab, Hpa⟩; obtain ⟨v242, v255, w3⟩ := v; try dsimp only
  rw [wp_bind]; iapply (part9_run m K c g v2 v255 w3) $$ HS; iintro %v HS; obtain ⟨v256, v270, v284, w4⟩ := v; try dsimp only
  rw [wp_bind]; iapply (part10_run m K c g v2 w4) $$ HS; iintro %v HS; obtain ⟨v298, v312, v313, w5⟩ := v; try dsimp only
  rw [wp_bind]; iapply (part11_run m K c g v2 v313 w5) $$ HS; iintro %v HS; obtain ⟨v326, v340, v342, w6⟩ := v; try dsimp only
  rw [wp_bind]; iapply (part12_run m K c g v2 v342 w6) $$ HS; iintro %v HS; obtain ⟨v354, v368, v370⟩ := v; try dsimp only
  rw [wp_bind]; iapply (part13_run m K c g v2 v370) $$ HS; iintro %v HS; obtain ⟨v382, v396, v398, w7⟩ := v; try dsimp only
  rw [wp_bind]; iapply (part14_run m K c g v2 v398 w7) $$ HS; iintro %v HS; obtain ⟨v410, v424, v428, w8⟩ := v; try dsimp only
  ihave Hw1 := (waitToks_intro c 1) $$ [Hc1 Ha1]
  · isplitl [Hc1]; · iexact Hc1
    iexact Ha1
  rw [wp_bind]; iapply (part15_run m K c g v2 v242 v256 v270 v428 w8) $$ [HS Hw1]
  · isplitl [HS]; · iexact HS
    isplitr; · iexact Hlev
    iexact Hw1
  iintro %v438 ⟨Hc0, HS⟩; try dsimp only
  rw [wp_bind]; iapply (part16_run m K c v284 v298 v312 v326) $$ HS; iintro HS; try dsimp only
  rw [wp_bind]; iapply (part17_run m K c v340 v354 v368 v382) $$ HS; iintro HS; try dsimp only
  rw [wp_bind]; iapply (part18_run m K c v396 v410 v424 v438) $$ HS; iintro HS; try dsimp only
  rw [wp_bind]; iapply (part19_run m K c) $$ [HS Hr]
  · isplitl [HS]; · iexact HS
    iexact Hr
  iintro ⟨Ha1, HO, Hs1⟩; try dsimp only
  rw [wp_bind]; iapply (part20_run m K c v2) $$ [Ha Hpa Htg HO]
  · isplitr; · iexact HR
    isplitl [Ha]; · iexists f2; iexact Ha
    isplitl [Hpa]; · iexact Hpa
    isplitl [Htg]; · iexact Htg
    iexact HO
  iintro %v ⟨HS, Hd⟩; obtain ⟨v589, w9⟩ := v; try dsimp only
  rw [wp_bind]; iapply (part21_run m K c v2 w9) $$ HS; iintro %v HS; obtain ⟨v603, v617, v631, w10⟩ := v; try dsimp only
  rw [wp_bind]; iapply (part22_run m K c v2 v631 w10) $$ HS; iintro %v HS; obtain ⟨v645, v659, v662⟩ := v; try dsimp only
  rw [wp_bind]; iapply (part23_run m K c v2 v662) $$ HS; iintro %v HS; obtain ⟨v673, v687⟩ := v; try dsimp only
  rw [wp_bind]; iapply (part24_run m K c v2) $$ HS; iintro %v HS; obtain ⟨v701, v715⟩ := v; try dsimp only
  rw [wp_bind]; iapply (part25_run m K c v2) $$ HS; iintro %v HS; obtain ⟨v729, v743, v756⟩ := v; try dsimp only
  rw [wp_bind]; iapply (part26_run m K c v2 v756) $$ HS; iintro %v HS; obtain ⟨v757, v771, v785⟩ := v; try dsimp only
  ihave HS := (agSt_end m K c) $$ HS
  icases HS with ⟨Hc2, HO⟩
  ihave Hw3 := (waitToks_intro c 3) $$ [Hc3 Ha3]
  · isplitl [Hc3]; · iexact Hc3
    iexact Ha3
  ihave HS := (waitSt_start m K c 3 Fin.revPerm Fin.rev rfl 0) $$ [Hw3 HO]
  · isplitr; · iexact HR
    isplitr; · iexact Hlev
    isplitl [Hw3]; · iexact Hw3
    iexact HO
  rw [wp_bind]; iapply (part27_run m K c v589 v603 v617 v631 v645) $$ HS; iintro HS; try dsimp only
  rw [wp_bind]; iapply (part28_run m K c v659 v673 v687 v701 v715) $$ HS; iintro %v HS; obtain ⟨v841, w11⟩ := v; try dsimp only
  rw [wp_bind]; iapply (part29_run m K c v729 v743 v757 v771 v841 w11) $$ HS; iintro HS; try dsimp only
  ihave Hw0 := (waitToks_intro c 0) $$ [Hc0 Ha0]
  · isplitl [Hc0]; · iexact Hc0
    iexact Ha0
  rw [wp_bind]; iapply (part30_run m K c o v785) $$ [HS Hd Hout Hw0]
  · isplitl [HS]; · iexact HS
    isplitl [Hd]; · iexact Hd
    isplitl [Hout]; · iexact Hout
    isplitr; · iexact HR
    isplitr; · iexact Hlev
    iexact Hw0
  iintro ⟨Ha3, Hg, Hl, Hout, HS⟩; try dsimp only
  rw [outW_indep]
  rw [wp_bind]; iapply (part31_run m K c) $$ HS; iintro HS; try dsimp only
  rw [wp_bind]; iapply (part32_run m K c) $$ HS; iintro HS; try dsimp only
  ihave Hw2 := (waitToks_intro c 2) $$ [Hc2 Ha2]
  · isplitl [Hc2]; · iexact Hc2
    iexact Ha2
  rw [wp_bind]; iapply (part33_run m K c) $$ [HS Hw2]
  · isplitl [HS]; · iexact HS
    isplitr; · iexact HR
    isplitr; · iexact Hlev
    iexact Hw2
  iintro ⟨Hp0, Ha0, HS⟩; try dsimp only
  rw [wp_bind]; iapply (part34_run m K c) $$ HS; iintro HS; try dsimp only
  rw [wp_bind]; iapply (part35_run m K c) $$ HS; iintro HS; try dsimp only
  simp only [Prog.lift, Prog.bind_op, Prog.bind_ret, Prog.pure_eq_ret]
  iapply (agd_at m K c 14 (by decide) rfl) $$ HS; iintro HS
  ihave HS := (waitSt_end m K c 2 (Equiv.refl _) id rfl 0) $$ HS
  icases HS with ⟨Hp2, Ha2, HO⟩
  ihave Hp0 := (pay_blocks m c) $$ Hp0
  ihave Hp2 := (pay_shares m c) $$ Hp2
  ihave Hs0 := (blocks_join c (obufC m c g)) $$ [Hb Hp0]
  · isplitl [Hb]; · iexists _; iexact Hb
    iexact Hp0
  ihave Hs2 := (gath_back m c) $$ [Hg Hl Hp2]
  · isplitl [Hg]; · iexact Hg
    isplitl [Hl]; · iexact Hl
    iexact Hp2
  imod (close_bar m K c) $$ [Hab] with Hzb
  · isplitr; · iexact HR
    iexact Hab
  imod (close_dma m K c 0) $$ [Ha0] with Hz0
  · isplitr; · iexact HR
    iexact Ha0
  imod (close_dma m K c 1) $$ [Ha1] with Hz1
  · isplitr; · iexact HR
    iexact Ha1
  imod (close_dma m K c 2) $$ [Ha2] with Hz2
  · isplitr; · iexact HR
    iexact Ha2
  imod (close_dma m K c 3) $$ [Ha3] with Hz3
  · isplitr; · iexact HR
    iexact Ha3
  rw [wp_ret]; imodintro
  iapply Hk
  unfold zeros
  isplitl [Hs0 Hs1 Hs2]
  · isplitl [Hs0]; · iexact Hs0
    isplitl [Hs1]; · iexact Hs1
    iexists _; iexact Hs2
  isplitl [Hzb Hz0 Hz1 Hz2 Hz3]
  · isplitl [Hzb]; · iexact Hzb
    isplitl [Hz0]; · iexact Hz0
    isplitl [Hz1]; · iexact Hz1
    isplitl [Hz2]; · iexact Hz2
    iexact Hz3
  isplitl [HO]; · iexact HO
  isplitr [Hout]
  · isplitl [Hx]; · iexact Hx
    isplitl [Hq]; · iexact Hq
    isplitl [Hw]; · iexact Hw
    isplitl [Hkk]; · iexact Hkk
    iexact Hv
  iexact Hout

end Cert.K

end
-- ==== Proof.Deal.lean ====
/-
What the launch hands out: every cell's invariant, every device's positions in its own cells, the tokens of what it pays
into others' cells, and the credits of what the others owe it.
-/
module

public import proofs.«01_k».proof.Proof.Body

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over a device's cells -/

theorem bigSep_arrays (Φ : Fin 4 → Fin 15 → sProp 𝕄) :
    (bigSep Finset.univ fun x : Fin 4 × Fin 15 => Φ x.1 x.2)
      = iprop((bigSep Finset.univ (Φ 0)) ∗ (bigSep Finset.univ (Φ 1)) ∗ (bigSep Finset.univ (Φ 2)) ∗ bigSep Finset.univ (Φ 3)) := by
  rw [bigSep_univ_prod]
  exact bigSep_univ_eq_bigSepL [0, 1, 2, 3] (by decide) (by decide) fun k => bigSep Finset.univ fun r => Φ k r

theorem bigSep_cells (Φ : CK → sProp 𝕄) :
    bigSep Finset.univ Φ = iprop(Φ (.inl ()) ∗ bigSep Finset.univ fun x : Fin 4 × Fin 15 => Φ (.inr x)) := by
  rw [bigSep_univ_sum]
  exact congrArg (fun P => iprop(P ∗ bigSep Finset.univ fun x : Fin 4 × Fin 15 => Φ (.inr x)))
    (bigSep_univ_eq_bigSepL [()] (by decide) (by decide) fun u : Unit => Φ (.inl u))

/-- A family over devices and neighbour numbers, seen from the other end of every pair. -/
theorem around (Φ : Dev nD → Fin 15 → sProp 𝕄) :
    (bigSep Finset.univ fun c => bigSep Finset.univ fun j => Φ c j)
      = bigSep Finset.univ fun c => bigSep Finset.univ fun r => Φ (nx c r) (Fin.rev r) := by
  rw [bigSep_univ_comm, bigSep_univ_equiv Fin.revPerm, bigSep_univ_comm (fun c r => Φ (nx c r) (Fin.rev r))]
  exact bigSep_congr fun r _ => bigSep_univ_equiv (shift r) fun c => Φ c (Fin.rev r)

/-! ## The tokens -/

def ringCells : Finset (GSem nD τ sig) := Finset.univ.map ⟨kcell, kcell_injective⟩

/-- The duties: the barrier's fifteen, and one in each of the sixty others. -/
def tokOf (x : Dev nD × (Fin 15 ⊕ (Fin 4 × Fin 15))) : GSem nD τ sig × ℕ × Fin 15 :=
  match x.2 with
  | .inl j => (barCell x.1, 0, j)
  | .inr y => (dcell x.1 y.1 y.2, 0, 0)

theorem tokOf_injective : Function.Injective tokOf := by
  have dev {g g' : SemLoc sig} {c c' : Dev nD} (h : ((c : Thread nD τ), g) = ((c' : Thread nD τ), g')) : c = c' :=
    congrArg (fun x : GSem nD τ sig => x.1.1) h
  rintro ⟨c, j | ⟨k, r⟩⟩ ⟨c', j' | ⟨k', r'⟩⟩ h <;> obtain ⟨h1, h2⟩ := Prod.mk.inj h
  · obtain rfl := dev h1
    obtain rfl : j = j' := (Prod.mk.inj h2).2
    rfl
  · exact absurd (congrArg Prod.snd h1) (by simp)
  · exact absurd (congrArg Prod.snd h1) (by simp)
  · obtain rfl := dev h1
    have h3 := congrArg Prod.snd h1
    simp only [SemLoc.dma.injEq] at h3
    obtain ⟨rfl, rfl⟩ := dsem_inj h3
    rfl

def ringToks : Finset (GSem nD τ sig × ℕ × Fin 15) := Finset.univ.map ⟨tokOf, tokOf_injective⟩

/-- The tokens of a device's own cells. -/
def toks (c : Dev nD) : sProp 𝕄 :=
  iprop((bigSep Finset.univ fun j => dutyTok ER (barCell c) 0 j) ∗ bigSep Finset.univ fun x : Fin 4 × Fin 15 => dutyTok ER (dcell c x.1 x.2) 0 0)

/-- What the launch deals a device, and what becomes of it when every device's share is put together. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)
def G' (c : Dev nD) : sProp 𝕄 := iprop(∃ K, records m K ∗ linear (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_sum]; rfl
  iintro HX
  imod (Rounds.fund ER (sched m) ringCells ringToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The sixty entries are the kernel's own semaphores; -/
abbrev osem (x : Fin 4 × Fin 15) : SemLoc sig := .dma (dsem x.1 x.2)

/-- the barrier's is the only one it does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) :
    (Pipeline.ownSems0 (Ix := Unit) (Name := ℕ) (U := UU) (Lvl := ℕ) (Val := Elt F) (τ := τ) osem c : sProp 𝕄)
      = bigSep Finset.univ fun x : Fin 4 × Fin 15 => semVal (dcell c x.1 x.2) 0 := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) := by
  unfold G
  rw [ownSems0_eq, unscopedSems0_eq]
  iintro ⟨Hos, Hus, Hst, Hat, Htok⟩
  ihave Hv := (Entails.of_eq (bigSep_cells (F := F) fun k => semVal (kcell (c, k)) 0).symm) $$ [Hos Hus]
  · isplitl [Hus] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Every device's share put together -/

/-- The tokens go to the devices that pay. -/
theorem toks_around : (bigSep Finset.univ fun c : Dev nD => toks (F := F) c)
    ⊢ bigSep Finset.univ fun c : Dev nD => (iprop((bigSep Finset.univ fun r => dutyTok ER (barCell (nx c r)) 0 (Fin.rev r))
        ∗ (bigSep Finset.univ fun r => dutyTok ER (dcell c 0 r) 0 0)
        ∗ (bigSep Finset.univ fun r => dutyTok ER (dcell (nx c r) 1 (Fin.rev r)) 0 0)
        ∗ gathToks (F := F) c) : sProp 𝕄) := by
  unfold toks gathToks
  have a (c : Dev nD) := bigSep_arrays (F := F) fun k r => dutyTok ER (dcell c k r) 0 0
  simp only [bigSep_sep']
  rw [bigSep_congr (s := Finset.univ) fun c _ => a c]
  simp only [bigSep_sep']
  rw [around (F := F) fun c j => dutyTok ER (barCell c) 0 j, around (F := F) fun c r => dutyTok ER (dcell c 1 r) 0 0,
    around (F := F) fun c r => dutyTok ER (dcell c 3 r) 0 0]

theorem linear_intro (c : Dev nD) :
    iprop((bigSep Finset.univ fun k : CK => atPos ER (kcell (c, k)) 0 ∅ 0)
        ∗ (bigSep Finset.univ fun r => dutyTok ER (barCell (nx c r)) 0 (Fin.rev r))
        ∗ (bigSep Finset.univ fun r => dutyTok ER (dcell c 0 r) 0 0)
        ∗ (bigSep Finset.univ fun r => dutyTok ER (dcell (nx c r) 1 (Fin.rev r)) 0 0)
        ∗ gathToks (F := F) c)
      ⊢ linear (F := F) c := by
  unfold linear
  rw [bigSep_cells, bigSep_arrays (F := F) fun k r => atPos ER (dcell c k r) 0 ∅ 0]
  iintro ⟨⟨Hb, H0, H1, H2, H3⟩, T1, T2, T3, T4⟩
  isplitl [T1]; · iexact T1
  isplitl [T2]; · iexact T2
  isplitl [T3]; · iexact T3
  isplitl [T4]; · iexact T4
  isplitl [Hb]; · iexact Hb
  isplitl [H0]; · iexact H0
  isplitl [H1]; · iexact H1
  isplitl [H2] <;> iassumption

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun x : Dev nD × CK => iprop(∃ κ : ℕ, cellInv ER (sched m) κ (kcell x))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun x : Dev nD × CK => (reached ER (kcell x) 0 : sProp 𝕄))]
  iintro ⟨HI, ⟨Hat, #HR⟩, Htok⟩
  ihave HK := (BI.bigSep_exists_pi Finset.univ (fun (x : Dev nD × CK) (κ : ℕ) => (cellInv ER (sched m) κ (kcell x) : sProp 𝕄))) $$ HI
  icases HK with ⟨%K, #HI⟩
  ihave Htk := (toks_around (F := F)) $$ Htok
  iapply (bigSep_pers (R := records m K) (Φ := fun c => linear (F := F) c) fun c _ => show iprop(records m K ∗ linear (F := F) c) ⊢ (G' m c : sProp 𝕄) from by
    unfold G'; iintro H; iexists K; iexact H)
  isplitr
  · unfold records; rw [bigSep_sep']; isplitl; · iexact HI
    iexact HR
  · iapply ((Entails.of_eq (bigSep_sep' Finset.univ (fun c : Dev nD => bigSep Finset.univ fun k : CK => (atPos ER (kcell (c, k)) 0 ∅ 0 : sProp 𝕄)) _).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device -/

/-- A family of debts, one per device and neighbour number, into one of the neighbours' cells: a device is owed each number
    once. -/
theorem owed_around (k : Fin 15 → CK) (a : ℕ) (c : Dev nD) (x : CK) :
    (∑ d : Dev nD, ∑ r : Fin 15, (tallyAt (kcell (nx d r, k r)) () a : CellTallies nD τ sig Unit) (kcell (c, x)) ())
      = ∑ r : Fin 15, if k r = x then a else 0 := by
  rw [Finset.sum_comm]
  refine Finset.sum_congr rfl fun r _ => ?_
  rw [Fintype.sum_equiv (shift r) (fun d : Dev nD => (tallyAt (kcell (nx d r, k r)) () a : CellTallies nD τ sig Unit) (kcell (c, x)) ())
    (fun d => (tallyAt (kcell (d, k r)) () a : CellTallies nD τ sig Unit) (kcell (c, x)) ()) fun d => rfl]
  have e (d : Dev nD) : (tallyAt (kcell (d, k r)) () a : CellTallies nD τ sig Unit) (kcell (c, x)) () = if d = c then (if k r = x then a else 0) else 0 := by
    rw [tallyAt_apply]
    by_cases h : d = c
    · subst h; rw [if_pos rfl]
      by_cases h' : k r = x
      · rw [if_pos h', if_pos ⟨by rw [h'], rfl⟩]
      · rw [if_neg h', if_neg fun h2 => h' (Prod.mk.inj (kcell_injective h2.1)).2.symm]
    · rw [if_neg h, if_neg fun h2 => h (Prod.mk.inj (kcell_injective h2.1)).1.symm]
  simp only [e, Finset.sum_ite_eq', Finset.mem_univ, if_true]

theorem tally_sum (s : Finset (Fin 15)) (f : Fin 15 → CellTallies nD τ sig Unit) (g : GSem nD τ sig) :
    (∑ r ∈ s, f r) g () = ∑ r ∈ s, f r g () := by
  rw [Finset.sum_apply, Finsupp.finset_sum_apply]

theorem owed_total (c : Dev nD) (x : CK) :
    launchCredit (Pipeline.owing O₀) 0 (kcell (c, x)) ()
      = (∑ r : Fin 15, if (.inr (3, Fin.rev r) : CK) = x then amt 3 else 0)
        + (∑ r : Fin 15, if (.inr (1, Fin.rev r) : CK) = x then amt 1 else 0) + ∑ r : Fin 15, if (.inl () : CK) = x then 1 else 0 := by
  rw [Pipeline.launchCredit_owing, ← owed_around (fun r => .inr (3, Fin.rev r)) (amt 3) c x, ← owed_around (fun r => .inr (1, Fin.rev r)) (amt 1) c x,
    ← owed_around (fun _ => .inl ()) 1 c x, ← Finset.sum_add_distrib, ← Finset.sum_add_distrib]
  refine Finset.sum_congr rfl fun d _ => ?_
  unfold O₀ oAg oRs oBar
  rw [Pi.add_apply, Finsupp.add_apply, Pi.add_apply, Finsupp.add_apply, fromN_zero, tally_sum, tally_sum, tally_sum]

theorem launch_at (c : Dev nD) (x : CK) (n : ℕ) (h : launchCredit (Pipeline.owing O₀) 0 (kcell (c, x)) () = n) :
    tallyOn (kcell (c, x)) (launchCredit (Pipeline.owing O₀) 0 (kcell (c, x))) = (tallyAt (kcell (c, x)) () n : CellTallies nD τ sig Unit) := by
  unfold tallyAt; refine congrArg _ (Finsupp.ext fun u => ?_); cases u
  rw [h, Finsupp.single_eq_same]

theorem rev_sum (r : Fin 15) (k k' : Fin 4) (a : ℕ) :
    (∑ s : Fin 15, if (.inr (k', Fin.rev s) : CK) = .inr (k, r) then a else 0) = if k' = k then a else 0 := by
  by_cases h : k' = k
  · subst h
    rw [if_pos rfl, Finset.sum_eq_single (Fin.rev r)]
    · rw [if_pos (by rw [Fin.rev_rev])]
    · exact fun s _ hs => if_neg fun h => hs (by simp only [Sum.inr.injEq, Prod.mk.injEq] at h; rw [← h.2, Fin.rev_rev])
    · exact fun h => absurd (Finset.mem_univ _) h
  · rw [if_neg h]
    exact Finset.sum_eq_zero fun s _ => if_neg fun h' => h (by simp only [Sum.inr.injEq, Prod.mk.injEq] at h'; exact h'.1)

theorem owed_bar (c : Dev nD) : launchCredit (Pipeline.owing O₀) 0 (kcell (c, .inl ())) () = 15 := by
  rw [owed_total]; simp
theorem owed_rs (c : Dev nD) (r : Fin 15) : launchCredit (Pipeline.owing O₀) 0 (kcell (c, .inr (1, r))) () = amt 1 := by
  rw [owed_total, rev_sum, rev_sum]; simp
theorem owed_ag (c : Dev nD) (r : Fin 15) : launchCredit (Pipeline.owing O₀) 0 (kcell (c, .inr (3, r))) () = amt 3 := by
  rw [owed_total, rev_sum, rev_sum]; simp

theorem creds (c : Dev nD) : (Pipeline.launchCred O₀ c : sProp 𝕄) ⊢ credits (F := F) c := by
  unfold Pipeline.launchCred credits
  refine (bigSep_subset (Finset.subset_univ (Finset.univ.map ⟨csem, csem_injective⟩))).trans ?_
  rw [bigSep_map, bigSep_cells]
  refine (sep_mono_right (Entails.of_eq (bigSep_arrays (F := F) fun k r =>
    cred (tallyOn (dcell c k r) (launchCredit (Pipeline.owing O₀) 0 (dcell c k r)))))).trans ?_
  rw [← bigSep_congr (s := Finset.univ) fun r _ => congrArg (fun t => (cred t : sProp 𝕄)) (launch_at c (.inr (1, r)) _ (owed_rs c r)),
    ← bigSep_congr (s := Finset.univ) fun r _ => congrArg (fun t => (cred t : sProp 𝕄)) (launch_at c (.inr (3, r)) _ (owed_ag c r)),
    ← launch_at c (.inl ()) _ (owed_bar c)]
  iintro ⟨Hb, -, H1, -, H3⟩
  isplitl [Hb]; · iexact Hb
  isplitl [H1] <;> iassumption

end Cert.K

end
-- ==== Proof.Launch.lean ====
/-
The launch: from any memory with every counter at zero, every fair execution of the kernel ends, with the inputs as they
were, the result array holding `outC` and every counter at zero again.
-/
module

public import proofs.«01_k».proof.Proof.Deal
public import Idealize.ShloMosaic.Lib.Pipeline.CollectiveSegs
public import Idealize.ShloMosaic.Lib.Pipeline.ValueKit.Geometry

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

open Idealize.ShloMosaic.Pipeline (Dat Cfg Window BodyObligation cellOf)

def s₀ : MemSt nD τ sig (Elt F) := ⟨m, fun _ => 0, ρ⟩

/-! ## The one point of the grid -/

/-- What a device starts from: what it was dealt, the credits, the levels; -/
def start (c : Dev nD) : sProp 𝕄 := iprop((∃ K, records m K ∗ linear (F := F) c) ∗ credits (F := F) c ∗ levAts L lv)
/-- with its scratch buffers, before the point; -/
def Φ₀ (c : Dev nD) : sProp 𝕄 := iprop(start m c ∗ scratch (F := F) c)
/-- and after it, the scratch buffers and every semaphore at zero. -/
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => qC m c
    | ⟨2, _⟩ => woC m c
    | ⟨3, _⟩ => kC m c
    | ⟨4, _⟩ => vC m c
    | ⟨5, _⟩ => outC m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ wPts c b f) := by
  unfold owns; simp only [Memref.view_whole, View.read_whole, View.set_whole]

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A staging buffer with given contents. -/
abbrev stg (c : Dev nD) (b : Ref sig .tc) (X : b.ty.Contents (Elt F)) : sProp 𝕄 :=
  iprop(∃ f : Buf (Elt F) ((c : Thread nD τ).loc b), ⌜f = X⌝ ∗ wPts c b f)

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ
    ∗ stg c cc0_stg0_0 (xC m c) ∗ stg c cc0_stg1_0 (qC m c) ∗ stg c cc0_stg2_0 (woC m c) ∗ stg c cc0_stg3_0 (kC m c)
    ∗ stg c cc0_stg4_0 (vC m c) ∗ stg c cc0_stg5_0 (outC m))

/-- What a device owes, with no bound left on what it has waited for. -/
theorem owes_enter (c : Dev nD) : (dats m ρ 0 c).owesAt () t0_0.castSucc ⊢ owesS c (O₀ c) := by
  unfold Dat.owesAt Pipeline.owesWithin owesS
  rw [show (dats m ρ 0 c).owed t0_0.castSucc = O₀ c from rfl]
  iintro ⟨%W, %hW, HO⟩; iexists W; iexact HO

theorem owes_leave (c : Dev nD) : owesS c 0 ⊢ (dats m ρ 0 c).owesAt () t0_0.succ := by
  unfold Dat.owesAt Pipeline.owesWithin owesS
  rw [show (dats m ρ 0 c).owed t0_0.succ = 0 from rfl]
  iintro ⟨%W, HO⟩; iexists W
  isplitr; · ipureintro; exact fun _ _ => Or.inl trivial
  iexact HO

set_option maxRecDepth 8000 in
theorem body_sound (c : Dev nD) :
    bodyPre m ρ c ⊢ wp frame (wpE (defs₀ (F := F)) 𝒱₀ (c : Thread nD τ) none) Set.univ
      (cc0_body xM hX qM hQ woM hW kM hK vM hV outM hOut oM hO rM hR aM hA cc0_scratch3 cc0_scratch4 cc0_scratch5 cc0_scratch6) (fun _ => bodyPost m ρ c) := by
  unfold bodyPre Φ₀ start
  iintro ⟨⟨⟨⟨%K, #HR, Hl⟩, Hc, #Hlev⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  obtain rfl : g0 = xC m c := h0.trans (by unfold Dat.before; rw [if_pos (fetch0_0 _)]; rfl)
  obtain rfl : g1 = qC m c := h1.trans (by unfold Dat.before; rw [if_pos (fetch0_1 _)]; rfl)
  obtain rfl : g2 = woC m c := h2.trans (by unfold Dat.before; rw [if_pos (fetch0_2 _)]; rfl)
  obtain rfl : g3 = kC m c := h3.trans (by unfold Dat.before; rw [if_pos (fetch0_3 _)]; rfl)
  obtain rfl : g4 = vC m c := h4.trans (by unfold Dat.before; rw [if_pos (fetch0_4 _)]; rfl)
  ihave HO := (owes_enter m ρ c) $$ Ho
  iapply (body_run m K c g5) $$ [Hl Hc Hs HO H0 H1 H2 H3 H4 H5]
  · isplitr; · iexact HR
    isplitr; · iexact Hlev
    isplitl [Hl]; · iexact Hl
    isplitl [Hc]; · iexact Hc
    isplitl [Hs]; · iexact Hs
    isplitl [HO]; · iexact HO
    unfold inputs
    isplitr [H5]
    · isplitl [H0]; · iexact H0
      isplitl [H1]; · iexact H1
      isplitl [H2]; · iexact H2
      isplitl [H3] <;> iassumption
    iexact H5
  unfold inputs bodyPost Φ₁
  iintro ⟨Hs, Hz, HO, ⟨H0, H1, H2, H3, H4⟩, H5⟩
  isplitl [Hs Hz]
  · isplitl [Hs] <;> iassumption
  isplitl [HO]; · iapply (owes_leave m ρ c); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  have e0 : (dats m ρ 0 c).after 0 t0_0 = xC m c := rfl
  have e1 : (dats m ρ 0 c).after 1 t0_0 = qC m c := rfl
  have e2 : (dats m ρ 0 c).after 2 t0_0 = woC m c := rfl
  have e3 : (dats m ρ 0 c).after 3 t0_0 = kC m c := rfl
  have e4 : (dats m ρ 0 c).after 4 t0_0 = vC m c := rfl
  have e5 : (dats m ρ 0 c).after 5 t0_0 = outC m := rfl
  have e6 : (dats m ρ 0 c).Φ t0_0.succ = Φ₁ c := rfl
  have e7 : defs₀ (F := F) Proc.tc 0 (t0_0, cfg0.slots t0_0) = cc0_body xM hX qM hQ woM hW kM hK vM hV outM hOut oM hO rM hR aM hA cc0_scratch3 cc0_scratch4 cc0_scratch5 cc0_scratch6 := rfl
  rw [e0, e1, e2, e3, e4, e5, e6, e7]
  show bodyPre m ρ c ⊢ wp frame (wpE (defs₀ (F := F)) 𝒱₀ (c : Thread nD τ) none) Set.univ
      (cc0_body xM hX qM hQ woM hW kM hK vM hV outM hOut oM hO rM hR aM hA cc0_scratch3 cc0_scratch4 cc0_scratch5 cc0_scratch6) (fun _ => bodyPost m ρ c)
  exact body_sound m ρ c

/-! ## The launch's side conditions -/

theorem ownSemFacts : Pipeline.OwnSemFacts cfg0.spec osem where
  isScoped := by decide +kernel
  inj := fun x y h => by
    simp only [osem, SemLoc.dma.injEq] at h
    obtain ⟨h1, h2⟩ := dsem_inj h; exact Prod.ext h1 h2
  disj := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    bigSep_arrays (F := F) fun k r => semVal (dcell c k r) 0]
  unfold Φ₁ scratch zeros
  iintro ⟨Hr, Hb, Hz⟩
  isplitl [Hb]; · iexact Hb
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds what it held; -/
theorem finalA_in (c : Dev nD) (w : Fin cfg0.W) (h : (cfg0.win w).isOut = false) : finalA m ρ c w = m ((cfg0.win w).arr.view.loc (c : Thread nD τ)) :=
  (dats (F := F) m ρ 0 c).arrAt_in w h _
/-- the result array holds what the body leaves in its one block. -/
theorem finalA_out (c : Dev nD) : finalA m ρ c (5 : Fin 6) = outC m :=
  (dats (F := F) m ρ 0 c).arrAt_eq_of_after_last (5 : Fin 6) t0_0 (by decide +kernel) (outC m) fun j => rfl

/-- Every run ends, with the result computed, the arguments as they were and every counter at zero. -/
theorem run : θ_run defs (onTc (τ := τ) (main (F := F))) ⟨m, fun _ => 0, ρ⟩
    (fun r => (∀ c : Dev nD, r.2.mem ((c : Thread nD τ).loc main_v1) = outC m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c 5).trans (finalA_out m ρ c), (h.1 c 0).trans (finalA_in m ρ c 0 rfl),
    (h.1 c 1).trans (finalA_in m ρ c 1 rfl), (h.1 c 3).trans (finalA_in m ρ c 3 rfl), (h.1 c 4).trans (finalA_in m ρ c 4 rfl),
    (h.1 c 2).trans (finalA_in m ρ c 2 rfl)⟩, h.2⟩) (run_main m ρ)

end Cert.K

end
-- ==== Proof.Twin.lean ====
/-
The kernel as printed and the kernel read in exact arithmetic are the same text: their tables of bodies are equal, at any
float values.
-/
module

public import proofs.«01_k».proof.Proof.Gen.Kernel
public import proofs.«01_k».proof.Proof.Gen.KernelIdeal

@[expose] public section

noncomputable section

namespace Cert.K

open Idealize.ShloMosaic

variable {F : FTy → Type} [FloatOps F]

theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ _ _ _ _ _ _ _ _ _ _ _ _ = Cert.KernelIdeal.cc0_body _ _ _ _ _ _ _ _ _ _ _ _ _ _ _ _ _ _ _ _ _ _
    rfl

theorem defs_same : Cert.Kernel.defs (F := F) = Cert.KernelIdeal.defs (F := F) := by
  unfold Cert.Kernel.defs Cert.KernelIdeal.defs
  exact congrArg (Pipeline.defs _) bodies_same

end Cert.K

end
-- ==== Proof.Payloads.lean ====
/-
What the kernel's arithmetic computes, element by element over the extended reals: the queries of four heads stacked, the weights
`exp (q k / 8)`, their products with the values, their sums, and the result row of one device.
-/
module

public import proofs.«01_k».proof.Proof.Contents
public import Idealize.ShloMosaic.Lib.Pointwise

@[expose] public section

noncomputable section

namespace Cert.K

open Cert.KernelIdeal Cert.KernelIdeal.Gen
open Idealize.ShloMosaic

set_option maxRecDepth 16384

/-- Lane `d` of head `g` among the 256 lanes of four heads. -/
abbrev lane4 (g : Fin 4) (d : Fin 64) : Fin 256 := ⟨64 * g.val + d.val, by omega⟩
/-- Row `i` of head `g` among the 512 rows of four heads stacked. -/
abbrev row4 (g : Fin 4) (i : Fin 128) : Fin 512 := ⟨128 * g.val + i.val, by omega⟩
/-- Lane `d` of head `4 h + g` among all 512 lanes. -/
abbrev lane8 (h : Fin 2) (g : Fin 4) (d : Fin 64) : Fin 512 := ⟨256 * h.val + 64 * g.val + d.val, by omega⟩

/-- A sum over the 512 lanes, head by head. -/
theorem sum_lanes {M : Type} [AddCommMonoid M] (f : Fin 512 → M) :
    ∑ l, f l = ∑ h : Fin 2, ∑ g : Fin 4, ∑ d : Fin 64, f (lane8 h g d) := by
  rw [Fin.sum_univ_tiles 2 256 rfl f]
  refine Finset.sum_congr rfl fun h _ => ?_
  rw [Fin.sum_univ_tiles 4 64 rfl]
  refine Finset.sum_congr rfl fun g _ => Finset.sum_congr rfl fun d _ => ?_
  congr 1; apply Fin.ext; simp; omega

/-! ## The projection -/

theorem proj_at (w : Vec Ideal S512x512 .bf16) (x : Vec Ideal S1x128x512 .bf16) (i : Fin 128) (l : Fin 512) :
    k0_pay3 w x (ix2 i l) = ∑ n : Fin 512, x (ix3 0 i n) * w (ix2 n l) := by
  pointwise [k0_pay3, k0_pay1]

/-- The queries of heads 0–3, stacked. -/
theorem stack0_at (w : Vec Ideal S512x512 .bf16) (x : Vec Ideal S1x128x512 .bf16) (g : Fin 4) (i : Fin 128) (d : Fin 64) :
    k0_pay4 w x (ix2 (row4 g i) d) = k0_pay3 w x (ix2 i (lane8 0 g d)) := by
  pointwise [k0_pay4]
  fin_vals g with hg
  all_goals
    have hi := i.isLt
    simp only [hg]
    repeat (first | rw [dif_pos (by omega)] | rw [dif_neg (by omega)])
    congr 2 <;> apply Fin.ext <;> simp <;> omega

/-- The queries of heads 4–7, stacked. -/
theorem stack1_at (q : FVec Ideal S128x512 .f32) (g : Fin 4) (i : Fin 128) (d : Fin 64) :
    k0_pay8 q (ix2 (row4 g i) d) = q (ix2 i (lane8 1 g d)) := by
  pointwise [k0_pay8]
  fin_vals g with hg
  all_goals
    have hi := i.isLt
    simp only [hg]
    repeat (first | rw [dif_pos (by omega)] | rw [dif_neg (by omega)])
    congr 2 <;> apply Fin.ext <;> simp <;> omega

/-! ## The weights and their two sums -/

theorem weight_at (q : FVec Ideal S512x64 .bf16) (k : Vec Ideal S1x128x1x64 .bf16) (r : Fin 512) (j : Fin 128) :
    k0_pay5 q k (ix2 r j) = Ideal.exp ((∑ d : Fin 64, q (ix2 r d) * k (ix4 0 j 0 d)) * Ideal.ofBits .f32 0x3E000000#32) := by
  pointwise [k0_pay5]

theorem weighted_at (q : FVec Ideal S512x64 .bf16) (k v : Vec Ideal S1x128x1x64 .bf16) (g : Fin 4) (i : Fin 128) (d : Fin 64) :
    k0_pay6 q k v (ix3 0 i (lane4 g d)) = ∑ j : Fin 128, k0_pay5 q k (ix2 (row4 g i) j) * v (ix4 0 j 0 d) := by
  pointwise [k0_pay6]
  fin_vals g with hg
  all_goals
    have hd := d.isLt
    simp only [hg]
    repeat (first | rw [dif_pos (by omega)] | rw [dif_neg (by omega)])
    refine Finset.sum_congr rfl fun j _ => ?_
    congr 2 <;> congr 1 <;> apply Fin.ext <;> simp <;> omega

theorem total_at (q : FVec Ideal S512x64 .bf16) (k : Vec Ideal S1x128x1x64 .bf16) (i : Fin 128) (g : Fin 4) :
    k0_pay7 q k (ix3 0 i g) = ∑ j : Fin 128, k0_pay5 q k (ix2 (row4 g i) j) := by
  pointwise [k0_pay7]
  fin_vals g with hg
  all_goals
    simp only [hg]
    repeat (first | rw [dif_pos (by omega)] | rw [dif_neg (by omega)])
    refine Finset.sum_congr rfl fun j _ => ?_
    congr 2; apply Fin.ext; simp <;> omega

/-! ## One device's result rows -/

/-- The word that says whether head `h` is the one lane `d` belongs to. -/
theorem head_word : ∀ (d : Fin 512) (h : Fin 8),
    IntOp.cmpi CmpIPredicate.eq
      (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d.val) 64#32) 0#32))
        (IntOp.subi (IntOp.divsi ArithUnit.vector (BitVec.ofNat 32 d.val) 64#32) 1#32)
        (IntOp.divsi ArithUnit.vector (BitVec.ofNat 32 d.val) 64#32))
      (BitVec.ofNat 32 h.val) = if h.val = d.val / 64 then 1#1 else 0#1 := by
  decide +kernel

theorem one_at : (FloatOps.sitofp (F := Ideal) FTy.f32 (BitVec.setWidth 32 (1#1)) : EReal) = 1 := by
  show (((BitVec.setWidth 32 (1#1)).toInt : ℝ) : EReal) = 1
  simp
theorem zero_at : (FloatOps.sitofp (F := Ideal) FTy.f32 (BitVec.setWidth 32 (0#1)) : EReal) = 0 := by
  show (((BitVec.setWidth 32 (0#1)).toInt : ℝ) : EReal) = 0
  simp

/-- A lane of the attention rows: the summed products over the summed weights of the lane's head. -/
theorem quotient_at (o : Vec Ideal S16x16x512 .bf16) (l : Vec Ideal S16x16x8 .bf16) (r : Fin 16) (d : Fin 512) :
    k0_pay22 o l (ix2 r d)
      = (∑ s : Fin 16, o (ix3 s r d)) * Ideal.div 1 (∑ s : Fin 16, l (ix3 s r (⟨d.val / 64, by omega⟩ : Fin 8))) := by
  pointwise [k0_pay22]
  congr 1
  rw [Finset.sum_eq_single (⟨d.val / 64, by omega⟩ : Fin 8)]
  · rw [head_word, if_pos rfl, one_at, mul_one]
  · intro h _ hne
    rw [head_word, if_neg fun e => hne (Fin.ext e), zero_at, mul_zero]
  · intro h; exact absurd (Finset.mem_univ _) h

theorem out_at (wo : FVec Ideal S512x512 .bf16) (a : FVec Ideal S16x512 .bf16) (r : Fin 16) (n : Fin 512) :
    k0_pay23 wo a (ix2 r n) = ∑ l : Fin 512, a (ix2 r l) * wo (ix2 l n) := by
  pointwise [k0_pay23]

theorem lift0_at (a : Vec Ideal S128x512 .bf16) (i : Fin 128) (n : Fin 512) : k0_pay24 a (ix3 0 i n) = a (ix2 i n) := by
  pointwise [k0_pay24]

/-! ## The payloads that are the same text -/

theorem pay10_eq : @k0_pay10 Ideal _ = k0_pay6 := rfl
theorem pay11_eq : @k0_pay11 Ideal _ = k0_pay7 := rfl
theorem pay15_eq : @k0_pay15 Ideal _ = k0_pay6 := rfl
theorem pay16_eq : @k0_pay16 Ideal _ = k0_pay7 := rfl
theorem pay19_eq : @k0_pay19 Ideal _ = k0_pay6 := rfl
theorem pay20_eq : @k0_pay20 Ideal _ = k0_pay7 := rfl
theorem pay17_eq : @k0_pay17 Ideal _ = k0_pay8 := rfl
theorem pay25_eq : @k0_pay25 Ideal _ = k0_pay24 := rfl
theorem pay1_eq (w : Vec Ideal S512x512 .bf16) : k0_pay1 w = w := by
  funext i; idx_vars i; pointwise [k0_pay1]
theorem pay2_eq (w : Vec Ideal S512x512 .bf16) : k0_pay2 w = w := by
  funext i; idx_vars i; pointwise [k0_pay2]
theorem pay12_eq (w : Vec Ideal S512x512 .bf16) (x : Vec Ideal S1x128x512 .bf16) : k0_pay12 (k0_pay1 w) x = k0_pay3 w x := rfl
theorem pay13_eq (w : Vec Ideal S512x512 .bf16) (x : Vec Ideal S1x128x512 .bf16) : k0_pay13 (k0_pay1 w) x = k0_pay4 w x := rfl

end Cert.K

end
-- ==== Proof.Partials.lean ====
/-
One device's partial sums, element by element over the extended reals: for each query row and head the sum over the device's 128 keys
of weight times value, and the sum of the weights.
-/
module

public import proofs.«01_k».proof.Proof.Payloads

@[expose] public section

noncomputable section

namespace Cert.K

open Cert.KernelIdeal Cert.KernelIdeal.Gen
open Idealize.ShloMosaic
open Idealize.ShloMosaic.TcCoe

set_option maxRecDepth 16384

/-! ## The specification of a weight -/

/-- Lane `l` of query row `i` of batch `b`. -/
def query (x : S2x128x512.Idx → EReal) (w : S512x512.Idx → EReal) (b : Fin 2) (i : Fin 128) (l : Fin 512) : EReal :=
  ∑ n : Fin 512, x (ix3 b i n) * w (ix2 n l)

/-- The score of query row `i` of batch `b`, head `4 h + g`, against the key row `kr`. -/
def score (x : S2x128x512.Idx → EReal) (w : S512x512.Idx → EReal) (b : Fin 2) (i : Fin 128) (h : Fin 2) (g : Fin 4)
    (kr : Fin 64 → EReal) : EReal :=
  (∑ d : Fin 64, query x w b i (lane8 h g d) * kr d) * Ideal.ofBits .f32 0x3E000000#32

/-! ## A store into a box of the partial sums' buffer, read at an index -/

section Box
variable {r0 l0 n : ℕ} {inb : ∀ a, (![0, r0, l0] : Fin 3 → ℕ) a + (![1, 128, n] : Fin 3 → ℕ) a ≤ S1x256x640.size a}
  (f : OBuf Ideal) (w : (⟨3, ![1, 128, n]⟩ : Shape).Idx → EReal) (I : S1x256x640.Idx)

theorem box_in (i : Fin 128) (l : Fin n) (h1 : (I 1).val = r0 + i.val) (h2 : (I 2).val = l0 + l.val) :
    (oM.access (Rect.unit (s := S1x256x640) ![0, r0, l0] ![1, 128, n] inb)).write (Elt Ideal) f w Finset.univ I = w (ix3 0 i l) := by
  have e : I = (oM.access (Rect.unit (s := S1x256x640) ![0, r0, l0] ![1, 128, n] inb)).emb (ix3 0 i l) := by
    have h0 : (I 0).val < 1 := (I 0).isLt
    funext a
    fin_cases a <;> apply Fin.ext
    · show (I 0).val = 0 + 1 * 0; omega
    · show (I 1).val = r0 + 1 * i.val; omega
    · show (I 2).val = l0 + 1 * l.val; omega
  rw [e, View.write_emb_of_mem _ _ (Finset.mem_univ _)]
  rfl

theorem box_out (h : (I 1).val < r0 ∨ r0 + 128 ≤ (I 1).val ∨ (I 2).val < l0 ∨ l0 + n ≤ (I 2).val) :
    (oM.access (Rect.unit (s := S1x256x640) ![0, r0, l0] ![1, 128, n] inb)).write (Elt Ideal) f w Finset.univ I = f I := by
  apply View.write_of_not_mem
  show I ∉ (oM.access (Rect.unit (s := S1x256x640) ![0, r0, l0] ![1, 128, n] inb)).set
  rw [show (oM.access (Rect.unit (s := S1x256x640) ![0, r0, l0] ![1, 128, n] inb)).set = _ from View.set_slice_whole _ _, Rect.mem_set_unit]
  intro H
  have h1 := H 1
  have h2 := H 2
  change r0 ≤ (I 1).val ∧ (I 1).val < r0 + 128 at h1
  change l0 ≤ (I 2).val ∧ (I 2).val < l0 + n at h2
  omega

end Box

variable (m : (ℓ : Loc nD τ sig) → Buf (Elt Ideal) ℓ) (c : Dev nD)

/-! ## What the body loads, at an index -/

theorem ldQ_eq : ldQ m c = qC m c := by
  funext i
  show qC m c _ = qC m c i
  congr 1; funext a; fin_cases a <;> apply Fin.ext <;> show 0 + 1 * _ = _ <;> rw [Nat.zero_add, Nat.one_mul] <;> rfl
theorem ldWo_eq : ldWo m c = woC m c := by
  funext i
  show woC m c _ = woC m c i
  congr 1; funext a; fin_cases a <;> apply Fin.ext <;> show 0 + 1 * _ = _ <;> rw [Nat.zero_add, Nat.one_mul] <;> rfl

/-- Batch `b` of `x` as loaded. -/
def ldX (b : Fin 2) : Vec Ideal S1x128x512 .bf16 := match b with | 0 => ldX0 m c | 1 => ldX1 m c
/-- The keys and the values of batch `b` and key head `h` as loaded. -/
def ldK (b h : Fin 2) : Vec Ideal S1x128x1x64 .bf16 := match b, h with | 0, 0 => ldK00 m c | 0, 1 => ldK01 m c | 1, 0 => ldK10 m c | 1, 1 => ldK11 m c
def ldV (b h : Fin 2) : Vec Ideal S1x128x1x64 .bf16 := match b, h with | 0, 0 => ldV00 m c | 0, 1 => ldV01 m c | 1, 0 => ldV10 m c | 1, 1 => ldV11 m c
/-- The stacked queries of batch `b`, heads `4 h` to `4 h + 3`. -/
def stack (b h : Fin 2) : FVec Ideal S512x64 .bf16 := match b, h with | 0, 0 => q00 m c | 0, 1 => q01 m c | 1, 0 => q10 m c | 1, 1 => q11 m c

theorem ldX_at (b : Fin 2) (i : Fin 128) (n : Fin 512) : ldX m c b (ix3 0 i n) = xC m c (ix3 b i n) := by
  fin_cases b
  all_goals
    show xC m c _ = xC m c _
    congr 1; funext a
    fin_cases a <;> apply Fin.ext
    · rfl
    · show 0 + 1 * i.val = i.val; omega
    · show 0 + 1 * n.val = n.val; omega

theorem ldK_at (b h : Fin 2) (j : Fin 128) (d : Fin 64) : ldK m c b h (ix4 0 j 0 d) = kC m c (ix4 b j h d) := by
  fin_cases b <;> fin_cases h
  all_goals
    show kC m c _ = kC m c _
    congr 1; funext a
    fin_cases a <;> apply Fin.ext
    · rfl
    · show 0 + 1 * j.val = j.val; omega
    · rfl
    · show 0 + 1 * d.val = d.val; omega

theorem ldV_at (b h : Fin 2) (j : Fin 128) (d : Fin 64) : ldV m c b h (ix4 0 j 0 d) = vC m c (ix4 b j h d) := by
  fin_cases b <;> fin_cases h
  all_goals
    show vC m c _ = vC m c _
    congr 1; funext a
    fin_cases a <;> apply Fin.ext
    · rfl
    · show 0 + 1 * j.val = j.val; omega
    · rfl
    · show 0 + 1 * d.val = d.val; omega

/-! ## Queries and weights -/

theorem stack_at (b h : Fin 2) (g : Fin 4) (i : Fin 128) (d : Fin 64) :
    stack m c b h (ix2 (row4 g i) d) = query (xC m c) (qC m c) b i (lane8 h g d) := by
  have key : k0_pay3 (ldQ m c) (ldX m c b) (ix2 i (lane8 h g d)) = query (xC m c) (qC m c) b i (lane8 h g d) := by
    rw [proj_at, ldQ_eq]; exact Finset.sum_congr rfl fun n _ => by rw [ldX_at]
  rw [← key]
  fin_cases b <;> fin_cases h
  · exact stack0_at _ _ g i d
  · exact stack1_at _ g i d
  · show k0_pay13 (k0_pay1 (ldQ m c)) (ldX1 m c) _ = _
    rw [pay13_eq]; exact stack0_at _ _ g i d
  · show k0_pay17 (k0_pay12 (k0_pay1 (ldQ m c)) (ldX1 m c)) _ = _
    rw [pay12_eq, pay17_eq]; exact stack1_at _ g i d

theorem weights_at (b h : Fin 2) (g : Fin 4) (i j : Fin 128) :
    k0_pay5 (stack m c b h) (ldK m c b h) (ix2 (row4 g i) j)
      = Ideal.exp (score (xC m c) (qC m c) b i h g fun d => kC m c (ix4 b j h d)) := by
  rw [weight_at]
  congr 2
  exact Finset.sum_congr rfl fun d _ => by rw [stack_at, ldK_at]

/-! ## The partial sums -/

/-- Device `c`'s share, over its 128 keys, of a query row's weighted values at lane `d` of a head, and of its sum of weights. -/
def partO (b : Fin 2) (i : Fin 128) (h : Fin 2) (g : Fin 4) (d : Fin 64) : EReal :=
  ∑ j : Fin 128, Ideal.exp (score (xC m c) (qC m c) b i h g fun e => kC m c (ix4 b j h e)) * vC m c (ix4 b j h d)
def partL (b : Fin 2) (i : Fin 128) (h : Fin 2) (g : Fin 4) : EReal :=
  ∑ j : Fin 128, Ideal.exp (score (xC m c) (qC m c) b i h g fun e => kC m c (ix4 b j h e))

/-- Row `i` of batch `b` among the 256 rows. -/
abbrev rowOf (b : Fin 2) (i : Fin 128) : Fin 256 := ⟨128 * b.val + i.val, by omega⟩
/-- The lane of the partial sums' buffer that holds lane `d` of head `4 h + g`, and the one that holds that head's sum of weights. -/
abbrev laneO (h : Fin 2) (g : Fin 4) (d : Fin 64) : Fin 640 := ⟨256 * h.val + 64 * g.val + d.val, by omega⟩
abbrev laneL (h : Fin 2) (g : Fin 4) : Fin 640 := ⟨512 + 4 * h.val + g.val, by omega⟩

theorem inbO (b h : Fin 2) : ∀ a, (![0, 128 * b.val, 256 * h.val] : Fin 3 → ℕ) a + (![1, 128, 256] : Fin 3 → ℕ) a ≤ S1x256x640.size a := by
  revert b h; decide
theorem inbL (b h : Fin 2) : ∀ a, (![0, 128 * b.val, 512 + 4 * h.val] : Fin 3 → ℕ) a + (![1, 128, 4] : Fin 3 → ℕ) a ≤ S1x256x640.size a := by
  revert b h; decide

/-- The store of the weighted values of batch `b`, heads `4 h` to `4 h + 3`, and the store of their sums of weights. -/
def putO (b h : Fin 2) (f : OBuf Ideal) : OBuf Ideal :=
  (oM.access (Rect.unit (s := S1x256x640) ![0, 128 * b.val, 256 * h.val] ![1, 128, 256] (inbO b h))).write (Elt Ideal) f (k0_pay6 (stack m c b h) (ldK m c b h) (ldV m c b h)) Finset.univ
def putL (b h : Fin 2) (f : OBuf Ideal) : OBuf Ideal :=
  (oM.access (Rect.unit (s := S1x256x640) ![0, 128 * b.val, 512 + 4 * h.val] ![1, 128, 4] (inbL b h))).write (Elt Ideal) f (k0_pay7 (stack m c b h) (ldK m c b h)) Finset.univ

theorem obufC_eq (f : OBuf Ideal) :
    obufC m c f = putL m c 1 1 (putO m c 1 1 (putL m c 1 0 (putO m c 1 0 (putL m c 0 1 (putO m c 0 1 (putL m c 0 0 (putO m c 0 0 f))))))) := rfl

theorem putO_in (f : OBuf Ideal) (b h : Fin 2) (g : Fin 4) (i : Fin 128) (d : Fin 64) :
    putO m c b h f (ix3 0 (rowOf b i) (laneO h g d))
      = partO m c b i h g d := by
  have key : k0_pay6 (stack m c b h) (ldK m c b h) (ldV m c b h) (ix3 0 i (lane4 g d)) = partO m c b i h g d := by
    rw [weighted_at]
    exact Finset.sum_congr rfl fun j _ => by rw [weights_at, ldV_at]
  exact (box_in _ _ _ i (lane4 g d) rfl (Nat.add_assoc _ _ _)).trans key

theorem putL_in (f : OBuf Ideal) (b h : Fin 2) (g : Fin 4) (i : Fin 128) :
    putL m c b h f (ix3 0 (rowOf b i) (laneL h g))
      = partL m c b i h g := by
  have key : k0_pay7 (stack m c b h) (ldK m c b h) (ix3 0 i g) = partL m c b i h g := by
    rw [total_at]
    exact Finset.sum_congr rfl fun j _ => by rw [weights_at]
  exact (box_in _ _ _ i g rfl rfl).trans key

theorem putO_out (f : OBuf Ideal) (b' h' : Fin 2) (I : S1x256x640.Idx)
    (h : (I 1).val < 128 * b'.val ∨ 128 * b'.val + 128 ≤ (I 1).val ∨ (I 2).val < 256 * h'.val ∨ 256 * h'.val + 256 ≤ (I 2).val) :
    putO m c b' h' f I = f I := box_out _ _ _ h
theorem putL_out (f : OBuf Ideal) (b' h' : Fin 2) (I : S1x256x640.Idx)
    (h : (I 1).val < 128 * b'.val ∨ 128 * b'.val + 128 ≤ (I 1).val ∨ (I 2).val < 512 + 4 * h'.val ∨ 512 + 4 * h'.val + 4 ≤ (I 2).val) :
    putL m c b' h' f I = f I := box_out _ _ _ h

theorem obuf_weighted (f : OBuf Ideal) (b h : Fin 2) (g : Fin 4) (i : Fin 128) (d : Fin 64) :
    obufC m c f (ix3 0 (rowOf b i) (laneO h g d))
      = partO m c b i h g d := by
  have hL : ∀ (b' h' : Fin 2) (f : OBuf Ideal), putL m c b' h' f (ix3 0 (rowOf b i) (laneO h g d)) = f (ix3 0 (rowOf b i) (laneO h g d)) :=
    fun b' h' f => putL_out _ _ _ _ _ _ (.inr (.inr (.inl (show 256 * h.val + 64 * g.val + d.val < 512 + 4 * h'.val by omega))))
  have hO : ∀ (b' h' : Fin 2) (f : OBuf Ideal), ¬ (b' = b ∧ h' = h) →
      putO m c b' h' f (ix3 0 (rowOf b i) (laneO h g d)) = f (ix3 0 (rowOf b i) (laneO h g d)) := fun b' h' f ne =>
    putO_out _ _ _ _ _ _ (by
      show 128 * b.val + i.val < _ ∨ _ ≤ 128 * b.val + i.val ∨ 256 * h.val + 64 * g.val + d.val < _ ∨ _ ≤ 256 * h.val + 64 * g.val + d.val
      omega)
  rw [obufC_eq]
  obtain rfl | rfl : b = 0 ∨ b = 1 := by omega
  all_goals obtain rfl | rfl : h = 0 ∨ h = 1 := by omega
  all_goals
    simp (disch := decide) only [hL, hO]
    exact putO_in ..

theorem obuf_total (f : OBuf Ideal) (b h : Fin 2) (g : Fin 4) (i : Fin 128) :
    obufC m c f (ix3 0 (rowOf b i) (laneL h g))
      = partL m c b i h g := by
  have hO : ∀ (b' h' : Fin 2) (f : OBuf Ideal), putO m c b' h' f (ix3 0 (rowOf b i) (laneL h g)) = f (ix3 0 (rowOf b i) (laneL h g)) :=
    fun b' h' f => putO_out _ _ _ _ _ _ (.inr (.inr (.inr (show 256 * h'.val + 256 ≤ 512 + 4 * h.val + g.val by omega))))
  have hL : ∀ (b' h' : Fin 2) (f : OBuf Ideal), ¬ (b' = b ∧ h' = h) →
      putL m c b' h' f (ix3 0 (rowOf b i) (laneL h g)) = f (ix3 0 (rowOf b i) (laneL h g)) := fun b' h' f ne =>
    putL_out _ _ _ _ _ _ (by
      show 128 * b.val + i.val < _ ∨ _ ≤ 128 * b.val + i.val ∨ 512 + 4 * h.val + g.val < _ ∨ _ ≤ 512 + 4 * h.val + g.val
      omega)
  rw [obufC_eq]
  obtain rfl | rfl : b = 0 ∨ b = 1 := by omega
  all_goals obtain rfl | rfl : h = 0 ∨ h = 1 := by omega
  all_goals
    try simp (disch := decide) only [hL, hO]
    exact putL_in ..

end Cert.K

end
-- ==== Proof.Result.lean ====
/-
The kernel's result, element by element over the extended reals: a query row's attention lanes are the devices' shares summed, over
the devices' sums of weights summed; the result row is their product with `Wo`.
-/
module

public import proofs.«01_k».proof.Proof.Partials

@[expose] public section

noncomputable section

namespace Cert.K

open Cert.KernelIdeal Cert.KernelIdeal.Gen
open Idealize.ShloMosaic
open Idealize.ShloMosaic.TcCoe

set_option maxRecDepth 16384

variable (m : (ℓ : Loc nD τ sig) → Buf (Elt Ideal) ℓ)

/-- Lane `d` of head `4 h + g` of query row `i` of batch `b`, after the exchange. -/
def attn (b : Fin 2) (i : Fin 128) (h : Fin 2) (g : Fin 4) (d : Fin 64) : EReal :=
  (∑ s : Dev nD, partO m s b i h g d) * Ideal.div 1 (∑ s : Dev nD, partL m s b i h g)

/-! ## What a device received, at an index -/

/-- Row `i` of batch `b` in device `s`'s block is what device `c` holds at row `16 c + r = 128 b + i`. -/
theorem recv_at (c s : Dev nD) (J : S16x16x640.Idx) (b : Fin 2) (i : Fin 128) (l : Fin 640) (h0 : (J 0).val = s.val)
    (h1 : 16 * c.val + (J 1).val = 128 * b.val + i.val) (h2 : (J 2).val = l.val) :
    recvC m c J = obufC m s (m (s, Proc.devRef .tc cc0_scratch0)) (ix3 0 (rowOf b i) l) := by
  obtain rfl : s = ⟨(J 0).val, (J 0).isLt⟩ := Fin.ext h0.symm
  unfold recvC
  have e : obIdx c J = ix3 0 (rowOf b i) l := by
    funext a
    fin_cases a <;> apply Fin.ext
    · rfl
    · exact h1
    · exact h2
  rw [e]

theorem recvO_at (c s : Dev nD) (r : Fin 16) (b : Fin 2) (i : Fin 128) (h : Fin 2) (g : Fin 4) (d : Fin 64)
    (hr : 16 * c.val + r.val = 128 * b.val + i.val) : recvO m c (ix3 s r (lane8 h g d)) = partO m s b i h g d := by
  refine Eq.trans ?_ (obuf_weighted m s (m (s, Proc.devRef .tc cc0_scratch0)) b h g i d)
  refine recv_at m c s _ b i (laneO h g d) ?_ ?_ ?_
  · show 0 + 1 * s.val = s.val; omega
  · show 16 * c.val + (0 + 1 * r.val) = _; omega
  · show 0 + 1 * (256 * h.val + 64 * g.val + d.val) = 256 * h.val + 64 * g.val + d.val; omega

theorem recvL_at (c s : Dev nD) (r : Fin 16) (b : Fin 2) (i : Fin 128) (h : Fin 2) (g : Fin 4)
    (hr : 16 * c.val + r.val = 128 * b.val + i.val) (x : Fin 8) (hx : x.val = 4 * h.val + g.val) :
    recvL m c (ix3 s r x) = partL m s b i h g := by
  refine Eq.trans ?_ (obuf_total m s (m (s, Proc.devRef .tc cc0_scratch0)) b h g i)
  refine recv_at m c s _ b i (laneL h g) ?_ ?_ ?_
  · show 0 + 1 * s.val = s.val; omega
  · show 16 * c.val + (0 + 1 * r.val) = _; omega
  · show 512 + 1 * x.val = 512 + 4 * h.val + g.val; omega

theorem attn_at (c : Dev nD) (r : Fin 16) (b : Fin 2) (i : Fin 128) (h : Fin 2) (g : Fin 4) (d : Fin 64)
    (hr : 16 * c.val + r.val = 128 * b.val + i.val) :
    k0_pay22 (recvO m c) (recvL m c) (ix2 r (lane8 h g d)) = attn m b i h g d := by
  rw [quotient_at]
  unfold attn
  congr 1
  · exact Finset.sum_congr rfl fun s _ => recvO_at m c s r b i h g d hr
  · congr 1
    exact Finset.sum_congr rfl fun s _ => recvL_at m c s r b i h g hr _ (by
      show (256 * h.val + 64 * g.val + d.val) / 64 = _; omega)

/-! ## The result -/

theorem acc_at (c : Dev nD) (r : Fin 16) (b : Fin 2) (i : Fin 128) (n : Fin 512) (hr : 16 * c.val + r.val = 128 * b.val + i.val) :
    accC m c (ix2 r n) = ∑ h : Fin 2, ∑ g : Fin 4, ∑ d : Fin 64, attn m b i h g d * woC m c (ix2 (lane8 h g d) n) := by
  unfold accC
  rw [out_at, sum_lanes, pay2_eq, ldWo_eq]
  refine Finset.sum_congr rfl fun h _ => Finset.sum_congr rfl fun g _ => Finset.sum_congr rfl fun d _ => ?_
  rw [attn_at m c r b i h g d hr]

theorem gath_at (b : Fin 2) (i : Fin 128) (n : Fin 512) (wo : S512x512.Idx → EReal) (hwo : ∀ c, woC m c = wo) :
    gathC m (ix2 (rowOf b i) n) = ∑ h : Fin 2, ∑ g : Fin 4, ∑ d : Fin 64, attn m b i h g d * wo (ix2 (lane8 h g d) n) := by
  unfold gathC
  have hb := b.isLt
  have hi := i.isLt
  have e : rowIdx (ix2 (rowOf b i) n) = ix2 ⟨(128 * b.val + i.val) % 16, Nat.mod_lt _ (by decide)⟩ n := by
    funext a; fin_cases a <;> rfl
  rw [e]
  refine (acc_at m _ _ b i n ?_).trans (by rw [hwo])
  show 16 * ((128 * b.val + i.val) / 16) + (128 * b.val + i.val) % 16 = _
  omega

theorem out_in {b' : ℕ} {inb} (f : Out Ideal) (w : S1x128x512.Idx → EReal) (b : Fin 2) (i : Fin 128) (n : Fin 512) (hb : b.val = b') :
    (outM.access (Rect.unit (s := S2x128x512) ![b', 0, 0] S1x128x512.size inb)).write (Elt Ideal) f w Finset.univ (ix3 b i n)
      = w (ix3 0 i n) := by
  have e : ix3 b i n = (outM.access (Rect.unit (s := S2x128x512) ![b', 0, 0] S1x128x512.size inb)).emb (ix3 0 i n) := by
    funext a
    fin_cases a <;> apply Fin.ext
    · show b.val = b' + 1 * 0; omega
    · show i.val = 0 + 1 * i.val; omega
    · show n.val = 0 + 1 * n.val; omega
  rw [e, View.write_emb_of_mem _ _ (Finset.mem_univ _)]
  rfl

theorem out_out {b' : ℕ} {inb} (f : Out Ideal) (w : S1x128x512.Idx → EReal) (b : Fin 2) (i : Fin 128) (n : Fin 512) (hb : b.val < b') :
    (outM.access (Rect.unit (s := S2x128x512) ![b', 0, 0] S1x128x512.size inb)).write (Elt Ideal) f w Finset.univ (ix3 b i n)
      = f (ix3 b i n) := by
  apply View.write_of_not_mem
  show ix3 b i n ∉ (outM.access (Rect.unit (s := S2x128x512) ![b', 0, 0] S1x128x512.size inb)).set
  rw [show (outM.access (Rect.unit (s := S2x128x512) ![b', 0, 0] S1x128x512.size inb)).set = _ from View.set_slice_whole _ _, Rect.mem_set_unit]
  intro H
  have h0 := (H 0).1
  change b' ≤ b.val at h0
  omega

theorem result_at (b : Fin 2) (i : Fin 128) (n : Fin 512) (wo : S512x512.Idx → EReal) (hwo : ∀ c, woC m c = wo) :
    outC m (ix3 b i n) = ∑ h : Fin 2, ∑ g : Fin 4, ∑ d : Fin 64, attn m b i h g d * wo (ix2 (lane8 h g d) n) := by
  rw [← gath_at m b i n wo hwo]
  unfold outC outW
  obtain rfl | rfl : b = 0 ∨ b = 1 := by omega
  · rw [out_out _ _ 0 i n (by decide), out_in (b' := 0) _ _ 0 i n rfl, lift0_at]
    show gathC m _ = gathC m _
    congr 1; funext a
    fin_cases a <;> apply Fin.ext
    · show 0 + 1 * i.val = 128 * 0 + i.val; omega
    · show 0 + 1 * n.val = n.val; omega
  · rw [out_in (b' := 1) _ _ 1 i n rfl, pay25_eq, lift0_at]
    show gathC m _ = gathC m _
    congr 1; funext a
    fin_cases a <;> apply Fin.ext
    · show 128 + 1 * i.val = 128 * 1 + i.val; omega
    · show 0 + 1 * n.val = n.val; omega

end Cert.K

end
-- ==== Proof.Reference.lean ====
/-
What the reference computes, element by element over the extended reals. Its two chunks of 1024 keys go through the same steps, so
each step is named once, as a function of the arrays it reads, and read once.
-/
module

public import proofs.«01_k».proof.Proof.Partials
public import proofs.«01_k».proof.Proof.Gen.ReferenceIdeal.Run

@[expose] public section

noncomputable section

namespace Cert.K.Ref

open Cert.ReferenceIdeal Cert.ReferenceIdeal.Gen
open Idealize.ShloMosaic
open Idealize.ShloMosaic.TcCoe
open Cert.K (lane8 query score)

set_option maxRecDepth 16384

/-- The queries, head by head. -/
def q (x : FVec Ideal S2x128x512 .bf16) (w : FVec Ideal S512x512 .bf16) : FVec Ideal S2x128x8x64 .bf16 :=
  shapeCast _ (truncf .bf16 (Host.dotGeneral dot_S2x128x512_S512x512_S2x128x512_2_0_01_1_n_n none x w) bitsLt_bf16_f32)
    shapeCasts_S2x128x512_S2x128x8x64

/-- Keys or values, a copy per query head. -/
def rep (k : FVec Ideal S2x2048x2x64 .bf16) : FVec Ideal S2x2048x8x64 .bf16 :=
  shapeCast _ (broadcastInDim S2x2048x2x4x64 ![0, 1, 2, 4] bcast_S2x2048x2x64_S2x2048x2x4x64_0_1_2_4 k) shapeCasts_S2x2048x2x4x64_S2x2048x8x64

/-- The two chunks of 1024 keys. -/
def cut0 (k : FVec Ideal S2x2048x2x64 .bf16) : FVec Ideal S2x1024x8x64 .bf16 :=
  extractStridedSlice S2x1024x8x64 ![0, 0, 0, 0] (rep k) slices_S2x2048x8x64_S2x1024x8x64_0_0_0_0
def cut1 (k : FVec Ideal S2x2048x2x64 .bf16) : FVec Ideal S2x1024x8x64 .bf16 :=
  extractStridedSlice S2x1024x8x64 ![0, 1024, 0, 0] (rep k) slices_S2x2048x8x64_S2x1024x8x64_0_1024_0_0

/-- A chunk's scores. -/
def sc (qs : FVec Ideal S2x128x8x64 .bf16) (ks : FVec Ideal S2x1024x8x64 .bf16) : FVec Ideal S2x8x128x1024 .f32 :=
  mulf (extf .f32 (truncf .bf16 (Host.dotGeneral dot_S2x128x8x64_S2x1024x8x64_S2x8x128x1024_3_3_1_1_02_02 none qs ks) bitsLt_bf16_f32) bitsLt_bf16_f32)
    (broadcastInDim S2x8x128x1024 ![] bcast_S_S2x8x128x1024 (constant S_ .f32 0x3E000000#32))

/-- The running maximum after a chunk. -/
def mx (m : FVec Ideal S2x8x128x1 .f32) (s : FVec Ideal S2x8x128x1024 .f32) : FVec Ideal S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))

/-- The factor that carries the earlier sums to the new maximum. -/
def al (m m' : FVec Ideal S2x8x128x1 .f32) : FVec Ideal S2x8x128x1 .f32 := Host.exp (subf m m')

/-- A chunk's weights. -/
def wt (s : FVec Ideal S2x8x128x1024 .f32) (m' : FVec Ideal S2x8x128x1 .f32) : FVec Ideal S2x8x128x1024 .f32 :=
  Host.exp (subf s (broadcastInDim S2x8x128x1024 ![0, 1, 2, 3] bcast_S2x8x128x1_S2x8x128x1024_0_1_2_3 m'))

/-- The sum of the weights after a chunk. -/
def den (l a : FVec Ideal S2x8x128x1 .f32) (p : FVec Ideal S2x8x128x1024 .f32) : FVec Ideal S2x8x128x1 .f32 :=
  addf (mulf l a) (broadcastInDim S2x8x128x1 ![0, 1, 2] bcast_S2x8x128_S2x8x128x1_0_1_2
    (Host.reduceAdd p (constant S_ .f32 0x00000000#32) reducesTo_S2x8x128x1024_S2x8x128_d3 h_S_))

/-- A row statistic along the lanes of its head. -/
def wide (a : FVec Ideal S2x8x128x1 .f32) : FVec Ideal S2x128x8x64 .f32 :=
  broadcastInDim S2x128x8x64 ![0, 1, 2, 3] bcast_S2x128x8x1_S2x128x8x64_0_1_2_3
    (transpose S2x128x8x1 [0, 2, 1, 3] a transposes_S2x8x128x1_S2x128x8x1_0_2_1_3)

/-- The weighted sum of the values after a chunk. -/
def num (o : FVec Ideal S2x128x8x64 .f32) (a : FVec Ideal S2x8x128x1 .f32) (vs : FVec Ideal S2x1024x8x64 .bf16)
    (p : FVec Ideal S2x8x128x1024 .f32) : FVec Ideal S2x128x8x64 .f32 :=
  addf (mulf o (wide a)) (transpose S2x128x8x64 [0, 3, 1, 2]
    (Host.dotGeneral dot_S2x1024x8x64_S2x8x128x1024_S2x8x64x128_1_3_3_2_02_01 none vs p) transposes_S2x8x64x128_S2x128x8x64_0_3_1_2)

/-- The result of the last weighted sums `o` and sums of weights `l`. -/
def fin (o : FVec Ideal S2x128x8x64 .f32) (l : FVec Ideal S2x8x128x1 .f32) (wo : FVec Ideal S512x512 .bf16) : FVec Ideal S2x128x512 .f32 :=
  Host.dotGeneral dot_S2x128x512_S512x512_S2x128x512_2_0_01_1_n_n none
    (shapeCast _ (Host.divf o (wide l)) shapeCasts_S2x128x8x64_S2x128x512) wo

def noMax : FVec Ideal S2x8x128x1 .f32 := broadcastInDim S2x8x128x1 ![] bcast_S_S2x8x128x1 (constant S_ .f32 0xFF800000#32)
def noDen : FVec Ideal S2x8x128x1 .f32 := broadcastInDim S2x8x128x1 ![] bcast_S_S2x8x128x1 (constant S_ .f32 0x00000000#32)
def noNum : FVec Ideal S2x128x8x64 .f32 := broadcastInDim S2x128x8x64 ![] bcast_S_S2x128x8x64 (constant S_ .f32 0x00000000#32)

section Whole
variable (x : FVec Ideal S2x128x512 .bf16) (w : FVec Ideal S512x512 .bf16) (k v : FVec Ideal S2x2048x2x64 .bf16) (wo : FVec Ideal S512x512 .bf16)

def s0 : FVec Ideal S2x8x128x1024 .f32 := sc (q x w) (cut0 k)
def s1 : FVec Ideal S2x8x128x1024 .f32 := sc (q x w) (cut1 k)
def m0 : FVec Ideal S2x8x128x1 .f32 := mx noMax (s0 x w k)
def m1 : FVec Ideal S2x8x128x1 .f32 := mx (m0 x w k) (s1 x w k)
def p0 : FVec Ideal S2x8x128x1024 .f32 := wt (s0 x w k) (m0 x w k)
def p1 : FVec Ideal S2x8x128x1024 .f32 := wt (s1 x w k) (m1 x w k)
def l0 : FVec Ideal S2x8x128x1 .f32 := den noDen (al noMax (m0 x w k)) (p0 x w k)
def l1 : FVec Ideal S2x8x128x1 .f32 := den (l0 x w k) (al (m0 x w k) (m1 x w k)) (p1 x w k)
def o0 : FVec Ideal S2x128x8x64 .f32 := num noNum (al noMax (m0 x w k)) (cut0 v) (p0 x w k)
def o1 : FVec Ideal S2x128x8x64 .f32 := num (o0 x w k v) (al (m0 x w k) (m1 x w k)) (cut1 v) (p1 x w k)
/-- The whole reference. -/
def whole : FVec Ideal S2x128x512 .f32 := fin (o1 x w k v) (l1 x w k) wo

end Whole

theorem res_eq (m : (ℓ : Loc nD τ sig) → Buf (Elt Ideal) ℓ) (c : Dev nD) :
    Value.res_main_v64 m c = whole (m (c.tc.loc main_arg0)) (m (c.tc.loc main_arg1)) (m (c.tc.loc main_arg2)) (m (c.tc.loc main_arg3))
      (m (c.tc.loc main_arg4)) := by
  unfold Value.res_main_v64 whole l1 o1 l0 o0 p1 p0 m1 m0 s1 s0 fin num den wt al mx sc cut0 cut1 rep q wide noMax noDen noNum
  rfl

/-! ## Read at an index -/

/-- Head `4 h + g`. -/
abbrev head (h : Fin 2) (g : Fin 4) : Fin 8 := ⟨4 * h.val + g.val, by omega⟩
/-- Key `j` of chunk `t`. -/
abbrev key (t : Fin 2) (j : Fin 1024) : Fin 2048 := ⟨1024 * t.val + j.val, by omega⟩

theorem q_at (x w) (b : Fin 2) (i : Fin 128) (h : Fin 2) (g : Fin 4) (d : Fin 64) :
    q x w (ix4 b i (head h g) d) = query x w b i (lane8 h g d) := by
  unfold query
  pointwise [q]
  refine Finset.sum_congr rfl fun n _ => ?_
  congr 3
  apply Fin.ext; show (4 * h.val + g.val) * 64 + d.val = 256 * h.val + 64 * g.val + d.val; omega

theorem rep_at (k) (b : Fin 2) (j : Fin 2048) (h : Fin 2) (g : Fin 4) (d : Fin 64) : rep k (ix4 b j (head h g) d) = k (ix4 b j h d) := by
  pointwise [rep]
  congr 2
  apply Fin.ext; show (4 * h.val + g.val) / 4 = h.val; omega

theorem cut0_at (k) (b : Fin 2) (j : Fin 1024) (h : Fin 2) (g : Fin 4) (d : Fin 64) : cut0 k (ix4 b j (head h g) d) = k (ix4 b (key 0 j) h d) := by
  rw [← rep_at k b _ h g]
  pointwise [cut0]
  congr 2
  apply Fin.ext; show j.val = 1024 * 0 + j.val; omega
theorem cut1_at (k) (b : Fin 2) (j : Fin 1024) (h : Fin 2) (g : Fin 4) (d : Fin 64) : cut1 k (ix4 b j (head h g) d) = k (ix4 b (key 1 j) h d) := by
  rw [← rep_at k b _ h g]
  pointwise [cut1]
  congr 2

theorem sc_at (qs ks) (b : Fin 2) (H : Fin 8) (i : Fin 128) (j : Fin 1024) :
    sc qs ks (ix4 b H i j) = (∑ d : Fin 64, qs (ix4 b i H d) * ks (ix4 b j H d)) * Ideal.ofBits .f32 0x3E000000#32 := by
  pointwise [sc]

theorem mx_at (m s) (b : Fin 2) (H : Fin 8) (i : Fin 128) :
    mx m s (ix4 b H i 0) = max (m (ix4 b H i 0)) (Finset.univ.fold max (Ideal.ofBits .f32 0xFF800000#32) fun j : Fin 1024 => s (ix4 b H i j)) := by
  pointwise [mx]

theorem al_at (m m') (b : Fin 2) (H : Fin 8) (i : Fin 128) : al m m' (ix4 b H i 0) = Ideal.exp (m (ix4 b H i 0) - m' (ix4 b H i 0)) := by
  pointwise [al]

theorem wt_at (s m') (b : Fin 2) (H : Fin 8) (i : Fin 128) (j : Fin 1024) :
    wt s m' (ix4 b H i j) = Ideal.exp (s (ix4 b H i j) - m' (ix4 b H i 0)) := by
  pointwise [wt]

theorem den_at (l a p) (b : Fin 2) (H : Fin 8) (i : Fin 128) :
    den l a p (ix4 b H i 0) = l (ix4 b H i 0) * a (ix4 b H i 0) + (Ideal.ofBits .f32 0x00000000#32 + ∑ j : Fin 1024, p (ix4 b H i j)) := by
  pointwise [den]

theorem wide_at (a) (b : Fin 2) (i : Fin 128) (H : Fin 8) (d : Fin 64) : wide a (ix4 b i H d) = a (ix4 b H i 0) := by
  pointwise [wide]

theorem num_at (o a vs p) (b : Fin 2) (i : Fin 128) (H : Fin 8) (d : Fin 64) :
    num o a vs p (ix4 b i H d) = o (ix4 b i H d) * a (ix4 b H i 0) + ∑ j : Fin 1024, vs (ix4 b j H d) * p (ix4 b H i j) := by
  rw [← wide_at a b i H d]
  pointwise [num]

theorem fin_at (o l wo) (b : Fin 2) (i : Fin 128) (n : Fin 512) :
    fin o l wo (ix3 b i n) = ∑ L : Fin 512, Ideal.div (o (ix4 b i ⟨L.val / 64, by omega⟩ ⟨L.val % 64, by omega⟩))
      (wide l (ix4 b i ⟨L.val / 64, by omega⟩ ⟨L.val % 64, by omega⟩)) * wo (ix2 L n) := by
  pointwise [fin]

end Cert.K.Ref

end
-- ==== Proof.Softmax.lean ====
/-
The softmax law behind the kernel: a softmax taken over two chunks of keys with a running maximum is the plain quotient of sums of
exponentials. The scores are real; the values may be infinite.
-/
module

public import proofs.«01_k».proof.Proof.Payloads

@[expose] public section

noncomputable section

namespace Cert.K

open Idealize.ShloMosaic

/-- `a` is neither infinity. -/
def IsReal (a : EReal) : Prop := ∃ r : ℝ, a = r

theorem IsReal.mul {a b : EReal} : IsReal a → IsReal b → IsReal (a * b)
  | ⟨r, hr⟩, ⟨s, hs⟩ => ⟨r * s, by rw [hr, hs, EReal.coe_mul]⟩
theorem IsReal.add {a b : EReal} : IsReal a → IsReal b → IsReal (a + b)
  | ⟨r, hr⟩, ⟨s, hs⟩ => ⟨r + s, by rw [hr, hs, EReal.coe_add]⟩
theorem IsReal.sum {ι : Type} (S : Finset ι) {f : ι → EReal} (h : ∀ i, IsReal (f i)) : IsReal (∑ i ∈ S, f i) := by
  classical
  induction S using Finset.induction_on with
  | empty => exact ⟨0, by simp⟩
  | insert a S ha ih => rw [Finset.sum_insert ha]; exact (h a).add ih

/-- The maximum of real scores, from minus infinity, is real. -/
theorem IsReal.fold {n : ℕ} [NeZero n] {f : Fin n → EReal} (h : ∀ i, IsReal (f i)) : IsReal (Finset.univ.fold max ⊥ f) := by
  have top : Finset.univ.fold max ⊥ f < ⊤ := by
    rw [Finset.fold_max_lt]
    exact ⟨bot_lt_top, fun i _ => by obtain ⟨r, hr⟩ := h i; rw [hr]; exact EReal.coe_lt_top r⟩
  have bot : ⊥ < Finset.univ.fold max ⊥ f := by
    rw [Finset.lt_fold_max]
    exact Or.inr ⟨0, Finset.mem_univ _, by obtain ⟨r, hr⟩ := h 0; rw [hr]; exact EReal.bot_lt_coe r⟩
  exact ⟨_, (EReal.coe_toReal top.ne bot.ne').symm⟩

theorem IsReal.max {a b : EReal} (ha : IsReal a) (hb : IsReal b) : IsReal (max a b) := by
  rcases max_choice a b with h | h <;> rw [h] <;> assumption

/-- A nonnegative real factor goes into a sum of extended reals. -/
theorem mul_sum_real {ι : Type} (c : ℝ) (hc : 0 ≤ c) (S : Finset ι) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (EReal.coe_nonneg.2 hc) (EReal.coe_ne_top c)]

/-- A weight taken against `m` is the plain weight times `exp (-m)`. -/
theorem exp_shift (s m : ℝ) : Ideal.exp ((s : EReal) - (m : EReal)) = ((Real.exp (-m) : ℝ) : EReal) * Ideal.exp (s : EReal) := by
  rw [← EReal.coe_sub, Ideal.exp_coe, Ideal.exp_coe, ← EReal.coe_mul, ← Real.exp_add]
  congr 2; ring

theorem sum_shift {n : ℕ} (s : Fin n → ℝ) (m : ℝ) (v : Fin n → EReal) :
    ∑ j, v j * Ideal.exp ((s j : EReal) - (m : EReal)) = ((Real.exp (-m) : ℝ) : EReal) * ∑ j, v j * Ideal.exp (s j : EReal) := by
  rw [mul_sum_real _ (Real.exp_pos _).le]
  exact Finset.sum_congr rfl fun j _ => by rw [exp_shift, mul_left_comm]

/-- The second chunk's sum on top of the first's, carried from the maximum `m0` to `m1`, is the whole plain sum times `exp (-m1)`. -/
theorem carried {n : ℕ} (s0 s1 : Fin n → ℝ) (m0 m1 : ℝ) (v0 v1 : Fin n → EReal) :
    (∑ j, v0 j * Ideal.exp ((s0 j : EReal) - (m0 : EReal))) * Ideal.exp ((m0 : EReal) - (m1 : EReal))
        + ∑ j, v1 j * Ideal.exp ((s1 j : EReal) - (m1 : EReal))
      = ((Real.exp (-m1) : ℝ) : EReal) * (∑ j, v0 j * Ideal.exp (s0 j : EReal) + ∑ j, v1 j * Ideal.exp (s1 j : EReal)) := by
  rw [sum_shift, sum_shift, exp_shift, Ideal.exp_coe,
    EReal.left_distrib_of_nonneg_of_ne_top (EReal.coe_nonneg.2 (Real.exp_pos _).le) (EReal.coe_ne_top _)]
  congr 1
  rw [mul_right_comm, ← EReal.coe_mul, ← EReal.coe_mul]
  congr 2
  rw [mul_left_comm, ← Real.exp_add, neg_add_cancel, Real.exp_zero, mul_one]

theorem sum_coe {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of plain weights is a real above zero. -/
theorem sum_exp_pos {n : ℕ} [NeZero n] (s : Fin n → ℝ) : ∃ r : ℝ, 0 < r ∧ ∑ j, Ideal.exp (s j : EReal) = r := by
  refine ⟨∑ j, Real.exp (s j), Finset.sum_pos (fun j _ => Real.exp_pos _) ⟨0, Finset.mem_univ _⟩, ?_⟩
  rw [sum_coe]
  exact Finset.sum_congr rfl fun j _ => Ideal.exp_coe _

/-- The quotient of the carried sums is the quotient of the plain ones. -/
theorem softmax {n : ℕ} [NeZero n] {s0 s1 : Fin n → EReal} {m0 m1 : EReal} (hs0 : ∀ j, IsReal (s0 j)) (hs1 : ∀ j, IsReal (s1 j))
    (hm0 : IsReal m0) (hm1 : IsReal m1) (v0 v1 : Fin n → EReal) :
    Ideal.div ((∑ j, v0 j * Ideal.exp (s0 j - m0)) * Ideal.exp (m0 - m1) + ∑ j, v1 j * Ideal.exp (s1 j - m1))
        ((∑ j, Ideal.exp (s0 j - m0)) * Ideal.exp (m0 - m1) + ∑ j, Ideal.exp (s1 j - m1))
      = (∑ j, v0 j * Ideal.exp (s0 j) + ∑ j, v1 j * Ideal.exp (s1 j))
        * Ideal.div 1 (∑ j, Ideal.exp (s0 j) + ∑ j, Ideal.exp (s1 j)) := by
  choose r0 hr0 using hs0
  choose r1 hr1 using hs1
  obtain ⟨a0, rfl⟩ := hm0
  obtain ⟨a1, rfl⟩ := hm1
  obtain rfl := funext hr0
  obtain rfl := funext hr1
  obtain ⟨l0, p0, e0⟩ := sum_exp_pos r0
  obtain ⟨l1, p1, e1⟩ := sum_exp_pos r1
  have hl := carried r0 r1 a0 a1 (fun _ => 1) (fun _ => 1)
  simp only [one_mul] at hl
  have hp : Real.exp (-a1) ≠ 0 := (Real.exp_pos _).ne'
  have hq : l0 + l1 ≠ 0 := (add_pos p0 p1).ne'
  rw [carried, hl, e0, e1, ← EReal.coe_add, ← EReal.coe_mul, Ideal.div_coe (mul_ne_zero hp hq), Ideal.div_coe hq, one_mul, mul_right_comm,
    ← EReal.coe_mul, mul_comm]
  congr 2
  field_simp

end Cert.K

end
-- ==== Proof.Quotient.lean ====
/-
The reference's result, element by element, when the scores are real: each attention lane is the plain quotient of two sums over
the 2048 keys.
-/
module

public import proofs.«01_k».proof.Proof.Reference
public import proofs.«01_k».proof.Proof.Softmax

@[expose] public section

noncomputable section

namespace Cert.K.Ref

open Cert.ReferenceIdeal Cert.ReferenceIdeal.Gen
open Idealize.ShloMosaic
open Cert.K (lane8 query score IsReal)

set_option maxRecDepth 16384

theorem zero_word : Ideal.ofBits .f32 0x00000000#32 = 0 := by simp [Ideal.ofBits, Ideal.ieee]
theorem bot_word : Ideal.ofBits .f32 0xFF800000#32 = ⊥ := by simp [Ideal.ofBits, Ideal.ieee]
theorem scale_real : IsReal (Ideal.ofBits .f32 0x3E000000#32) :=
  ⟨1 / 8, by simp [Ideal.ofBits, Ideal.ieee, -EReal.coe_mul]; norm_num⟩

variable {x : FVec Ideal S2x128x512 .bf16} {w : FVec Ideal S512x512 .bf16} {k v : FVec Ideal S2x2048x2x64 .bf16}

theorem s0_at (b : Fin 2) (h : Fin 2) (g : Fin 4) (i : Fin 128) (j : Fin 1024) :
    s0 x w k (ix4 b (head h g) i j) = score x w b i h g fun d => k (ix4 b (key 0 j) h d) := by
  rw [s0, sc_at, score]
  congr 1
  exact Finset.sum_congr rfl fun d _ => by rw [q_at, cut0_at]
theorem s1_at (b : Fin 2) (h : Fin 2) (g : Fin 4) (i : Fin 128) (j : Fin 1024) :
    s1 x w k (ix4 b (head h g) i j) = score x w b i h g fun d => k (ix4 b (key 1 j) h d) := by
  rw [s1, sc_at, score]
  congr 1
  exact Finset.sum_congr rfl fun d _ => by rw [q_at, cut1_at]

theorem noMax_at (i) : noMax i = ⊥ := bot_word
theorem noDen_at (i) : noDen i = 0 := zero_word
theorem noNum_at (i) : noNum i = 0 := zero_word

theorem score_real (hx : ∀ i, IsReal (x i)) (hw : ∀ i, IsReal (w i)) (b : Fin 2) (i : Fin 128) (h : Fin 2) (g : Fin 4)
    {kr : Fin 64 → EReal} (hk : ∀ d, IsReal (kr d)) : IsReal (score x w b i h g kr) :=
  (IsReal.sum _ fun d => (IsReal.sum _ fun n => (hx _).mul (hw _)).mul (hk d)).mul scale_real

/-- The plain sum of weight times value over the keys, and of the weights. -/
def sumO (x : FVec Ideal S2x128x512 .bf16) (w : FVec Ideal S512x512 .bf16) (k v : FVec Ideal S2x2048x2x64 .bf16)
    (b : Fin 2) (i : Fin 128) (h : Fin 2) (g : Fin 4) (d : Fin 64) : EReal :=
  ∑ j : Fin 2048, v (ix4 b j h d) * Ideal.exp (score x w b i h g fun e => k (ix4 b j h e))
def sumL (x : FVec Ideal S2x128x512 .bf16) (w : FVec Ideal S512x512 .bf16) (k : FVec Ideal S2x2048x2x64 .bf16)
    (b : Fin 2) (i : Fin 128) (h : Fin 2) (g : Fin 4) : EReal :=
  ∑ j : Fin 2048, Ideal.exp (score x w b i h g fun e => k (ix4 b j h e))

theorem sum_chunks {M : Type} [AddCommMonoid M] (f : Fin 2048 → M) : ∑ j, f j = ∑ j, f (key 0 j) + ∑ j, f (key 1 j) := by
  rw [Fin.sum_univ_two_halves 1024 1024 rfl f]
  congr 1

theorem lane_at (hx : ∀ i, IsReal (x i)) (hw : ∀ i, IsReal (w i)) (hk : ∀ i, IsReal (k i)) (b : Fin 2) (i : Fin 128) (h : Fin 2)
    (g : Fin 4) (d : Fin 64) : Ideal.div (o1 x w k v (ix4 b i (head h g) d)) (l1 x w k (ix4 b (head h g) i 0))
      = sumO x w k v b i h g d * Ideal.div 1 (sumL x w k b i h g) := by
  have hs0 : ∀ j, IsReal (s0 x w k (ix4 b (head h g) i j)) := fun j => by rw [s0_at]; exact score_real hx hw b i h g fun d => hk _
  have hs1 : ∀ j, IsReal (s1 x w k (ix4 b (head h g) i j)) := fun j => by rw [s1_at]; exact score_real hx hw b i h g fun d => hk _
  have hm0 : IsReal (m0 x w k (ix4 b (head h g) i 0)) := by
    rw [m0, mx_at, noMax_at, bot_word, max_eq_right bot_le]; exact IsReal.fold hs0
  have hm1 : IsReal (m1 x w k (ix4 b (head h g) i 0)) := by
    rw [m1, mx_at, bot_word]; exact hm0.max (IsReal.fold hs1)
  have key := Cert.K.softmax hs0 hs1 hm0 hm1 (fun j => v (ix4 b (key 0 j) h d)) (fun j => v (ix4 b (key 1 j) h d))
  rw [sumO, sumL, sum_chunks, sum_chunks]
  simp only [← s0_at, ← s1_at]
  rw [← key]
  congr 1
  · simp only [o1, num_at, o0, noNum_at, zero_mul, zero_add, cut0_at, cut1_at, al_at, p0, p1, wt_at]
  · simp only [l1, den_at, l0, noDen_at, zero_mul, zero_add, zero_word, al_at, p0, p1, wt_at]

theorem whole_at (hx : ∀ i, IsReal (x i)) (hw : ∀ i, IsReal (w i)) (hk : ∀ i, IsReal (k i)) (wo : FVec Ideal S512x512 .bf16)
    (b : Fin 2) (i : Fin 128) (n : Fin 512) :
    whole x w k v wo (ix3 b i n)
      = ∑ h : Fin 2, ∑ g : Fin 4, ∑ d : Fin 64, sumO x w k v b i h g d * Ideal.div 1 (sumL x w k b i h g) * wo (ix2 (lane8 h g d) n) := by
  rw [whole, fin_at, Cert.K.sum_lanes]
  refine Finset.sum_congr rfl fun h _ => Finset.sum_congr rfl fun g _ => Finset.sum_congr rfl fun d _ => ?_
  rw [← lane_at hx hw hk, wide_at]
  have e1 : (⟨(lane8 h g d).val / 64, by omega⟩ : Fin 8) = head h g := Fin.ext (by show (256 * h.val + 64 * g.val + d.val) / 64 = 4 * h.val + g.val; omega)
  have e2 : (⟨(lane8 h g d).val % 64, by omega⟩ : Fin 64) = d := Fin.ext (by show (256 * h.val + 64 * g.val + d.val) % 64 = d.val; omega)
  rw [e1, e2]

end Cert.K.Ref

end
-- ==== Proof.Equation.lean ====
/-
The equation: from memories whose arrays agree and are finite where the scores read them, the kernel's result on sixteen devices is
the reference's.
-/
module

public import proofs.«01_k».proof.Defs
public import proofs.«01_k».proof.Proof.Result
public import proofs.«01_k».proof.Proof.Quotient
public import Idealize.ShloMosaic.Lib.ReduceAll

@[expose] public section

noncomputable section

namespace Cert.K

open Cert.KernelIdeal Cert.KernelIdeal.Gen
open Idealize.ShloMosaic
open Idealize.ShloMosaic.TcCoe

set_option maxRecDepth 16384

variable (m : (ℓ : Loc nD τ sig) → Buf (Elt Ideal) ℓ) (c : Dev nD)

/-! ## A device's windows are its whole arrays -/

theorem xC_eq : xC m c = m (c.tc.loc main_arg0) := by
  funext i
  show m (c.tc.loc main_arg0) _ = m (c.tc.loc main_arg0) i
  congr 1; funext a; fin_cases a <;> apply Fin.ext <;> show 0 + 1 * _ = _ <;> rw [Nat.zero_add, Nat.one_mul] <;> rfl
theorem qC_eq : qC m c = m (c.tc.loc main_arg1) := by
  funext i
  show m (c.tc.loc main_arg1) _ = m (c.tc.loc main_arg1) i
  congr 1; funext a; fin_cases a <;> apply Fin.ext <;> show 0 + 1 * _ = _ <;> rw [Nat.zero_add, Nat.one_mul] <;> rfl
theorem woC_eq : woC m c = m (c.tc.loc main_arg4) := by
  funext i
  show m (c.tc.loc main_arg4) _ = m (c.tc.loc main_arg4) i
  congr 1; funext a; fin_cases a <;> apply Fin.ext <;> show 0 + 1 * _ = _ <;> rw [Nat.zero_add, Nat.one_mul] <;> rfl
theorem kC_eq : kC m c = m (c.tc.loc main_arg2) := by
  funext i
  show m (c.tc.loc main_arg2) _ = m (c.tc.loc main_arg2) i
  congr 1; funext a; fin_cases a <;> apply Fin.ext <;> show 0 + 1 * _ = _ <;> rw [Nat.zero_add, Nat.one_mul] <;> rfl
theorem vC_eq : vC m c = m (c.tc.loc main_arg3) := by
  funext i
  show m (c.tc.loc main_arg3) _ = m (c.tc.loc main_arg3) i
  congr 1; funext a; fin_cases a <;> apply Fin.ext <;> show 0 + 1 * _ = _ <;> rw [Nat.zero_add, Nat.one_mul] <;> rfl

/-! ## The precondition, read back -/

/-- A value whose absolute value is below infinity is real. -/
theorem isReal_of_lt (a : EReal) (h : Ideal.cmp .olt (max a (-a)) (Ideal.ofBits .bf16 0x7F80#16) = 1#1) : IsReal a := by
  have top : Ideal.ofBits .bf16 0x7F80#16 = ⊤ := by simp [Ideal.ofBits, Ideal.ieee]
  rw [top] at h
  replace h := max_lt_iff.1 ((Ideal.cmp_olt_eq_one _ _).1 h)
  refine ⟨a.toReal, (EReal.coe_toReal h.1.ne ?_).symm⟩
  rintro rfl
  exact absurd h.2 (by simp)

theorem finite [Cert.Pre_finite_scores_KernelIdeal.Facts] {x : FVec Ideal S2x128x512 .bf16} {w : FVec Ideal S512x512 .bf16}
    {k v : FVec Ideal S2x128x2x64 .bf16} {wo : FVec Ideal S512x512 .bf16}
    (h : Cert.Pre_finite_scores_KernelIdeal.fn (F := Ideal) x w k v wo = fun _ => 1#1) :
    (∀ i, IsReal (x i)) ∧ (∀ i, IsReal (w i)) ∧ ∀ i, IsReal (k i) := by
  haveI : Subsingleton Cert.Pre_finite_scores_KernelIdeal.S_.Idx := ⟨fun a b => funext fun k => k.elim0⟩
  have h0 := congrFun h ix0
  obtain ⟨h1, hk⟩ := IntOp.andi_eq_one.1 h0
  obtain ⟨hx, hw⟩ := IntOp.andi_eq_one.1 h1
  exact ⟨fun i => isReal_of_lt _ (Host.reduce_andi_all _ _ _ _ _ hx i), fun i => isReal_of_lt _ (Host.reduce_andi_all _ _ _ _ _ hw i),
    fun i => isReal_of_lt _ (Host.reduce_andi_all _ _ _ _ _ hk i)⟩

/-! ## The devices' keys together -/

/-- Key `j` of device `s` among all 2048. -/
abbrev keyOf (s : Dev nD) (j : Fin 128) : Fin 2048 := ⟨128 * s.val + j.val, by have : s.val < 16 := s.isLt; omega⟩

theorem sum_keys {M : Type} [AddCommMonoid M] (f : Fin 2048 → M) : ∑ j, f j = ∑ s : Dev nD, ∑ j : Fin 128, f (keyOf s j) := by
  rw [Fin.sum_univ_tiles 16 128 rfl f]
  refine Finset.sum_congr rfl fun s _ => Finset.sum_congr rfl fun j _ => congrArg f (Fin.ext ?_)
  show s.val * 128 + j.val = 128 * s.val + j.val
  omega

theorem block_at {α : Type} (V : (⟨4, ![2, 2048, 2, 64]⟩ : Shape).Idx → α) (b : Fin 2) (j : Fin 128) (h : Fin 2) (d : Fin 64) :
    (Layout.block ⟨4, ![2, 128, 2, 64]⟩ ⟨4, ![2, 2048, 2, 64]⟩ 1 16 c V) (ix4 b j h d) = V (ix4 b (keyOf c j) h d) := by
  rw [Layout.block_apply]
  congr 1; funext a
  fin_cases a <;> apply Fin.ext
  · rfl
  · show c.val * 128 + j.val = 128 * c.val + j.val; omega
  · rfl
  · rfl

/-- Every key of the whole array is some device's. -/
theorem keyOf_surj (j : Fin 2048) : ∃ (s : Dev nD) (i : Fin 128), keyOf s i = j :=
  ⟨⟨j.val / 128, by show j.val / 128 < 16; omega⟩, ⟨j.val % 128, by omega⟩, Fin.ext (by show 128 * (j.val / 128) + j.val % 128 = j.val; omega)⟩

section Agree
variable {x : FVec Ideal S2x128x512 .bf16} {w wo : FVec Ideal S512x512 .bf16} {k v : (⟨4, ![2, 2048, 2, 64]⟩ : Shape).Idx → EReal}
  (hx : ∀ c : Dev nD, m (c.tc.loc main_arg0) = x) (hw : ∀ c : Dev nD, m (c.tc.loc main_arg1) = w)
  (hk : ∀ c : Dev nD, m (c.tc.loc main_arg2) = Layout.block ⟨4, ![2, 128, 2, 64]⟩ ⟨4, ![2, 2048, 2, 64]⟩ 1 16 c k)
  (hv : ∀ c : Dev nD, m (c.tc.loc main_arg3) = Layout.block ⟨4, ![2, 128, 2, 64]⟩ ⟨4, ![2, 2048, 2, 64]⟩ 1 16 c v)
  (hwo : ∀ c : Dev nD, m (c.tc.loc main_arg4) = wo)
include hx hw hk

theorem total_weights (b : Fin 2) (i : Fin 128) (h : Fin 2) (g : Fin 4) :
    ∑ s : Dev nD, partL m s b i h g = Ref.sumL x w k b i h g := by
  rw [Ref.sumL, sum_keys]
  refine Finset.sum_congr rfl fun s _ => Finset.sum_congr rfl fun j _ => ?_
  simp only [xC_eq, qC_eq, kC_eq, hx, hw, hk, block_at]

include hv in
theorem total_weighted (b : Fin 2) (i : Fin 128) (h : Fin 2) (g : Fin 4) (d : Fin 64) :
    ∑ s : Dev nD, partO m s b i h g d = Ref.sumO x w k v b i h g d := by
  rw [Ref.sumO, sum_keys]
  refine Finset.sum_congr rfl fun s _ => Finset.sum_congr rfl fun j _ => ?_
  simp only [xC_eq, qC_eq, kC_eq, vC_eq, hx, hw, hk, hv, block_at]
  exact mul_comm _ _

omit hx hw in
theorem keys_real (rk : ∀ (s : Dev nD) i, IsReal (m (s.tc.loc main_arg2) i)) (i) : IsReal (k i) := by
  obtain ⟨b, J, h, d, rfl⟩ : ∃ (b : Fin 2) (J : Fin 2048) (h : Fin 2) (d : Fin 64), i = ix4 b J h d :=
    ⟨i 0, i 1, i 2, i 3, by funext a; fin_cases a <;> rfl⟩
  obtain ⟨s, j, rfl⟩ := keyOf_surj J
  rw [← block_at s k, ← hk s]
  exact rk s _

include hv hwo in
theorem out_eq_whole (rx : ∀ i, IsReal (x i)) (rw_ : ∀ i, IsReal (w i)) (rk : ∀ i, IsReal (k i)) : outC m = Ref.whole x w k v wo := by
  funext I
  obtain ⟨b, i, n, rfl⟩ : ∃ (b : Fin 2) (i : Fin 128) (n : Fin 512), I = ix3 b i n :=
    ⟨I 0, I 1, I 2, by funext a; fin_cases a <;> rfl⟩
  have e : ∑ h : Fin 2, ∑ g : Fin 4, ∑ d : Fin 64, attn m b i h g d * wo (ix2 (lane8 h g d) n)
      = ∑ h : Fin 2, ∑ g : Fin 4, ∑ d : Fin 64,
        Ref.sumO x w k v b i h g d * Ideal.div 1 (Ref.sumL x w k b i h g) * wo (ix2 (lane8 h g d) n) :=
    Finset.sum_congr rfl fun h _ => Finset.sum_congr rfl fun g _ => Finset.sum_congr rfl fun d _ => by
      rw [attn, total_weights m hx hw hk, total_weighted m hx hw hk hv]
  exact (result_at m b i n wo fun c => (woC_eq m c).trans (hwo c)).trans (e.trans (Ref.whole_at rx rw_ rk wo b i n).symm)

end Agree

end Cert.K

end
-- ==== Proof.lean ====
/-
The claims, assembled: every run of the kernel and of the reference ends with the arguments unchanged and every counter at zero, and
in exact arithmetic the two leave the same result, given finite x, Wq and keys.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Twin
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the kernel ends, its arguments as they were and every counter at zero. -/
theorem frame_kernel : Cert.quiescent_Kernel := fun m ρ _ => by
  rw [Cert.K.defs_same]
  exact (θ_run Cert.KernelIdeal.defs _ _).mono (fun _ h => ⟨fun c => (h.1 c).2, h.2⟩) (Cert.K.run (F := Bits) m ρ)

/-- The same in exact arithmetic. -/
theorem frame_kernelIdeal : Cert.quiescent_KernelIdeal := fun m ρ _ =>
  (θ_run Cert.KernelIdeal.defs _ _).mono (fun _ h => ⟨fun c => (h.1 c).2, h.2⟩) (Cert.K.run (F := Ideal) m ρ)

/-- Every run of the reference ends, its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shape relations the precondition names, over a device's arrays and over the whole ones. -/
theorem pre_facts : Cert.Pre_finite_scores_KernelIdeal.Facts where
  bcast_S_S2x128x512 := by decide
  reducesTo_S2x128x512_S_d0_1_2 := by decide
  h_S_ := by decide
  bcast_S_S512x512 := by decide
  reducesTo_S512x512_S_d0_1 := by decide
  bcast_S_S2x128x2x64 := by decide
  reducesTo_S2x128x2x64_S_d0_1_2_3 := by decide
theorem pre_facts_reference : Cert.Pre_finite_scores_ReferenceIdeal.Facts where
  bcast_S_S2x128x512 := by decide
  reducesTo_S2x128x512_S_d0_1_2 := by decide
  h_S_ := by decide
  bcast_S_S512x512 := by decide
  reducesTo_S512x512_S_d0_1 := by decide
  bcast_S_S2x2048x2x64 := by decide
  reducesTo_S2x2048x2x64_S_d0_1_2_3 := by decide

/-- The kernel's result on every device is the reference's. -/
theorem result [hPre_finite_scores_KernelIdeal : Cert.Pre_finite_scores_KernelIdeal.Facts] : Cert.algebraic_KernelIdeal_ReferenceIdeal_pre_finite_scores_KernelIdeal := by
  intro m g m' g' pre agree
  have fin := fun c => Cert.K.finite (pre c)
  have e := Cert.K.out_eq_whole m (fun c => (agree c).1) (fun c => (agree c).2.1) (fun c => (agree c).2.2.1) (fun c => (agree c).2.2.2.1)
    (fun c => (agree c).2.2.2.2) (fun i => (agree 0).1 ▸ (fin 0).1 i) (fun i => (agree 0).2.1 ▸ (fin 0).2.1 i)
    (Cert.K.keys_real m (fun c => (agree c).2.2.1) fun c => (fin c).2.2)
  refine ⟨Cert.ReferenceIdeal.Value.res_main_v64 m' 0, ?_, ?_⟩
  · refine (θ_run Cert.KernelIdeal.defs _ _).mono (fun _ h c => ⟨(h.1 c).1.trans ?_, (h.1 c).2⟩) (Cert.K.run (F := Ideal) m g)
    rw [Cert.K.Ref.res_eq]
    exact e
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, pre_facts, pre_facts_reference,
    frame_kernel, frame_kernelIdeal, fun m ρ _ => frame_kernelIdeal m ρ trivial, frame_reference, fun m ρ _ => frame_reference m ρ trivial,
    trivial, result (hPre_finite_scores_KernelIdeal := pre_facts)⟩

end Cert.Proof

end
